-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_sqrt_dh" .f32 0x3E3504F3#32 (((Real.sqrt 32)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_cst) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x512x128 : Shape := ⟨3, ![16, 512, 128]⟩
abbrev S16x512x512 : Shape := ⟨3, ![16, 512, 512]⟩
abbrev S1x1x128 : Shape := ⟨3, ![1, 1, 128]⟩
abbrev S128x128 : Shape := ⟨2, ![128, 128]⟩
abbrev S128 : Shape := ⟨1, ![128]⟩
abbrev S3x128x128 : Shape := ⟨3, ![3, 128, 128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S16x512x128 : S_.BroadcastsInDim S16x512x128 (![] : Fin 0 → Fin S16x512x128.rank)
  reducesTo_S16x512x128_S_d0_1_2 : S16x512x128.ReducesTo [0, 1, 2] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S1x1x128 : S_.BroadcastsInDim S1x1x128 (![] : Fin 0 → Fin S1x1x128.rank)
  reducesTo_S1x1x128_S_d0_1_2 : S1x1x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_

variable [Facts]

def fn_part2 {F : FTy → Type} [FloatOps F] (main_arg7 : FVec F S3x128x128 .f32) (main_arg8 : FVec F S3x128x128 .f32) (main_arg9 : FVec F S3x128x128 .f32) (main_v33 : IVec S_ 1) : IVec S_ 1 :=
  let main_v34 : FVec F S3x128x128 .f32 := Host.absf main_arg7
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128x128 .f32 := Host.absf main_arg9
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S3x128x128 .f32) (main_arg7 : FVec F S3x128x128 .f32) (main_arg8 : FVec F S3x128x128 .f32) (main_arg9 : FVec F S3x128x128 .f32) (main_v13 : IVec S_ 1) (main_v16 : IVec S1x1x128 1) : IVec S_ 1 :=
  let main_c_5 : IVec S_ 1 := constantI S_ 1 1#1
  let main_v17 : IVec S_ 1 := (fun x v => Host.reduce IntOp.andi x v reducesTo_S1x1x128_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg6
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S16x512x128 .f32) (main_arg1 : FVec F S16x512x512 .f32) (main_arg2 : FVec F S16x512x512 .f32) (main_arg3 : FVec F S1x1x128 .f32) (main_arg4 : FVec F S128x128 .f32) (main_arg5 : FVec F S128 .f32) (main_arg6 : FVec F S3x128x128 .f32) (main_arg7 : FVec F S3x128x128 .f32) (main_arg8 : FVec F S3x128x128 .f32) (main_arg9 : FVec F S3x128x128 .f32) (main_arg10 : FVec F S128x256 .f32) (main_arg11 : FVec F S256 .f32) (main_arg12 : FVec F S256x128 .f32) (main_arg13 : FVec F S128 .f32) : IVec S_ 1 :=
  let main_v0 : FVec F S16x512x128 .f32 := Host.absf main_arg0
  let main_cst : FVec F S_ .f32 := constant S_ .f32 0x7F800000#32
  let main_v1 : FVec F S16x512x128 .f32 := broadcastInDim S16x512x128 ![] bcast_S_S16x512x128 main_cst
  let main_v2 : IVec S16x512x128 1 := cmpf .olt main_v0 main_v1
  let main_c : IVec S_ 1 := constantI S_ 1 1#1
  let main_v3 : IVec S_ 1 := (fun x v => Host.reduce IntOp.andi x v reducesTo_S16x512x128_S_d0_1_2 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S16x512x512 .f32 := Host.absf main_arg2
  let main_cst_2 : FVec F S_ .f32 := constant S_ .f32 0x7F800000#32
  let main_v10 : FVec F S16x512x512 .f32 := broadcastInDim S16x512x512 ![] bcast_S_S16x512x512 main_cst_2
  let main_v11 : IVec S16x512x512 1 := cmpf .olt main_v9 main_v10
  let main_c_3 : IVec S_ 1 := constantI S_ 1 1#1
  let main_v12 : IVec S_ 1 := (fun x v => Host.reduce IntOp.andi x v reducesTo_S16x512x512_S_d0_1_2 h_S_) main_v11 main_c_3
  let main_v13 : IVec S_ 1 := andi main_v8 main_v12
  let main_v14 : FVec F S1x1x128 .f32 := Host.absf main_arg3
  let main_cst_4 : FVec F S_ .f32 := constant S_ .f32 0x7F800000#32
  let main_v15 : FVec F S1x1x128 .f32 := broadcastInDim S1x1x128 ![] bcast_S_S1x1x128 main_cst_4
  let main_v16 : IVec S1x1x128 1 := cmpf .olt main_v14 main_v15
  fn_part1 (F := F) main_arg4 main_arg5 main_arg6 main_arg7 main_arg8 main_arg9 main_v13 main_v16
-- ==== Kernel.lean ====
abbrev S16x512x128 : Shape := ⟨3, ![16, 512, 128]⟩
abbrev S16x512x512 : Shape := ⟨3, ![16, 512, 512]⟩
abbrev S1x1x128 : Shape := ⟨3, ![1, 1, 128]⟩
abbrev S128x128 : Shape := ⟨2, ![128, 128]⟩
abbrev S128 : Shape := ⟨1, ![128]⟩
abbrev S3x128x128 : Shape := ⟨3, ![3, 128, 128]⟩
abbrev S128x256 : Shape := ⟨2, ![128, 256]⟩
abbrev S256 : Shape := ⟨1, ![256]⟩
abbrev S256x128 : Shape := ⟨2, ![256, 128]⟩
abbrev S16x512 : Shape := ⟨2, ![16, 512]⟩
abbrev S16x512x1 : Shape := ⟨3, ![16, 512, 1]⟩
abbrev S1x128 : Shape := ⟨2, ![1, 128]⟩
abbrev S1x256 : Shape := ⟨2, ![1, 256]⟩
abbrev S16x1x1 : Shape := ⟨3, ![16, 1, 1]⟩
abbrev S1x512x128 : Shape := ⟨3, ![1, 512, 128]⟩
abbrev S1x512x512 : Shape := ⟨3, ![1, 512, 512]⟩
abbrev S1x512x1 : Shape := ⟨3, ![1, 512, 1]⟩
abbrev S1x1x1 : Shape := ⟨3, ![1, 1, 1]⟩
abbrev S512x128 : Shape := ⟨2, ![512, 128]⟩
abbrev S512x1 : Shape := ⟨2, ![512, 1]⟩
abbrev S512x512 : Shape := ⟨2, ![512, 512]⟩
abbrev S1x128x128 : Shape := ⟨3, ![1, 128, 128]⟩
abbrev S512x32 : Shape := ⟨2, ![512, 32]⟩
abbrev S512x33 : Shape := ⟨2, ![512, 33]⟩
abbrev S512x256 : Shape := ⟨2, ![512, 256]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 26
  | .vmem => 23
  | .smem => 0
  | _ => 0

abbrev bufTy : (tb : Table) → Fin (tcTables nBuf tb) → BufTy
  | .hbm, ⟨0, _⟩ => ⟨S16x512x128, .f32⟩
  | .hbm, ⟨1, _⟩ => ⟨S16x512x512, .f32⟩
  | .hbm, ⟨2, _⟩ => ⟨S16x512x512, .f32⟩
  | .hbm, ⟨3, _⟩ => ⟨S1x1x128, .f32⟩
  | .hbm, ⟨4, _⟩ => ⟨S128x128, .f32⟩
  | .hbm, ⟨5, _⟩ => ⟨S128, .f32⟩
  | .hbm, ⟨6, _⟩ => ⟨S3x128x128, .f32⟩
  | .hbm, ⟨7, _⟩ => ⟨S3x128x128, .f32⟩
  | .hbm, ⟨8, _⟩ => ⟨S3x128x128, .f32⟩
  | .hbm, ⟨9, _⟩ => ⟨S3x128x128, .f32⟩
  | .hbm, ⟨10, _⟩ => ⟨S128x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S16x512, .f32⟩
  | .hbm, ⟨15, _⟩ => ⟨S16x512x1, .f32⟩
  | .hbm, ⟨16, _⟩ => ⟨S1x128, .f32⟩
  | .hbm, ⟨17, _⟩ => ⟨S1x128, .f32⟩
  | .hbm, ⟨18, _⟩ => ⟨S1x256, .f32⟩
  | .hbm, ⟨19, _⟩ => ⟨S1x128, .f32⟩
  | .hbm, ⟨20, _⟩ => ⟨S16x512x128, .f32⟩
  | .hbm, ⟨21, _⟩ => ⟨S16x1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x512x128, .f32⟩
  | .local _ .vmem, ⟨1, _⟩ => ⟨S1x512x128, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1, .f32⟩
  | .local _ .vmem, ⟨7, _⟩ => ⟨S1x512x1, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S3x128x128, .f32⟩
  | .local _ .vmem, ⟨12, _⟩ => ⟨S3x128x128, .f32⟩
  | .local _ .vmem, ⟨13, _⟩ => ⟨S3x128x128, .f32⟩
  | .local _ .vmem, ⟨14, _⟩ => ⟨S3x128x128, .f32⟩
  | .local _ .vmem, ⟨15, _⟩ => ⟨S128x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S1x512x128, .f32⟩
  | .local _ .vmem, ⟨20, _⟩ => ⟨S1x512x128, .f32⟩
  | .local _ .vmem, ⟨21, _⟩ => ⟨S1x1x1, .f32⟩
  | .local _ .vmem, ⟨22, _⟩ => ⟨S1x1x1, .f32⟩
  | _, _ => ⟨S16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_cst_0 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "inv_sqrt_dh" => some (((Real.sqrt 32)⁻¹ : ℝ) : EReal)
  | _ => none
-- ==== ReferenceIdeal.lean ====
abbrev S16x512x128 : Shape := ⟨3, ![16, 512, 128]⟩
abbrev S16x512x512 : Shape := ⟨3, ![16, 512, 512]⟩
abbrev S1x1x128 : Shape := ⟨3, ![1, 1, 128]⟩
abbrev S128x128 : Shape := ⟨2, ![128, 128]⟩
abbrev S128 : Shape := ⟨1, ![128]⟩
abbrev S3x128x128 : Shape := ⟨3, ![3, 128, 128]⟩
abbrev S128x256 : Shape := ⟨2, ![128, 256]⟩
abbrev S256 : Shape := ⟨1, ![256]⟩
abbrev S256x128 : Shape := ⟨2, ![256, 128]⟩
abbrev S16x77 : Shape := ⟨2, ![16, 77]⟩
abbrev S16x512 : Shape := ⟨2, ![16, 512]⟩
abbrev S16x77x128 : Shape := ⟨3, ![16, 77, 128]⟩
abbrev S16 : Shape := ⟨1, ![16]⟩
abbrev S16x1 : Shape := ⟨2, ![16, 1]⟩
abbrev S_ : Shape := ⟨0, ![]⟩
abbrev S16x77x1 : Shape := ⟨3, ![16, 77, 1]⟩
abbrev S16x77x2 : Shape := ⟨3, ![16, 77, 2]⟩
abbrev S16x1x512x512 : Shape := ⟨4, ![16, 1, 512, 512]⟩
abbrev S1x128x128 : Shape := ⟨3, ![1, 128, 128]⟩
abbrev S16x512x4x32 : Shape := ⟨4, ![16, 512, 4, 32]⟩
abbrev S16x4x512x32 : Shape := ⟨4, ![16, 4, 512, 32]⟩
abbrev S16x4x512x512 : Shape := ⟨4, ![16, 4, 512, 512]⟩
abbrev S16x4x512 : Shape := ⟨3, ![16, 4, 512]⟩
abbrev S16x4x512x1 : Shape := ⟨4, ![16, 4, 512, 1]⟩
abbrev S16x512x256 : Shape := ⟨3, ![16, 512, 256]⟩
abbrev S1x1x256 : Shape := ⟨3, ![1, 1, 256]⟩

abbrev nBuf : Space → Nat
  | .hbm => 206
  | .vmem => 0
  | .smem => 0
  | _ => 0

abbrev hbmTy0_0 (i : Nat) : BufTy := match i % 128 with
  | 0 => ⟨S16x512x128, .f32⟩
  | 1 => ⟨S16x512x512, .f32⟩
  | 2 => ⟨S16x512x512, .f32⟩
  | 3 => ⟨S1x1x128, .f32⟩
  | 4 => ⟨S128x128, .f32⟩
  | 5 => ⟨S128, .f32⟩
  | 6 => ⟨S3x128x128, .f32⟩
  | 7 => ⟨S3x128x128, .f32⟩
  | 8 => ⟨S3x128x128, .f32⟩
  | 9 => ⟨S3x128x128, .f32⟩
  | 10 => ⟨S128x256, .f32⟩
  | 11 => ⟨S256, .f32⟩
  | 12 => ⟨S256x128, .f32⟩
  | 13 => ⟨S128, .f32⟩
  | 14 => ⟨S16x77, .i32⟩
  | 15 => ⟨S16x512, .f32⟩
  | 16 => ⟨S16x77x128, .f32⟩
  | 17 => ⟨S16, .i32⟩
  | 18 => ⟨S16x1, .i32⟩
  | 19 => ⟨S_, .i32⟩
  | 20 => ⟨S16x1, .i32⟩
  | 21 => ⟨S16x1, .i1⟩
  | 22 => ⟨S_, .i32⟩
  | 23 => ⟨S16x1, .i32⟩
  | 24 => ⟨S16x1, .i32⟩
  | 25 => ⟨S16x1, .i32⟩
  | 26 => ⟨S_, .i32⟩
  | 27 => ⟨S16x77, .i32⟩
  | 28 => ⟨S16x77, .i1⟩
  | 29 => ⟨S_, .i32⟩
  | 30 => ⟨S16x77, .i32⟩
  | 31 => ⟨S16x77, .i32⟩
  | 32 => ⟨S16x77, .i32⟩
  | 33 => ⟨S16x77, .i32⟩
  | 34 => ⟨S16x77x1, .i32⟩
  | 35 => ⟨S16x77x1, .i32⟩
  | 36 => ⟨S16x77x2, .i32⟩
  | 37 => ⟨S16x512x128, .f32⟩
  | 38 => ⟨S16x512x128, .f32⟩
  | 39 => ⟨S1x1x128, .f32⟩
  | 40 => ⟨S16x512x128, .f32⟩
  | 41 => ⟨S16x512x128, .f32⟩
  | 42 => ⟨S16x512x512, .f32⟩
  | 43 => ⟨S16x1x512x512, .f32⟩
  | 44 => ⟨S1x128x128, .f32⟩
  | 45 => ⟨S128x128, .f32⟩
  | 46 => ⟨S16x512x128, .f32⟩
  | 47 => ⟨S16x512x4x32, .f32⟩
  | 48 => ⟨S16x4x512x32, .f32⟩
  | 49 => ⟨S1x128x128, .f32⟩
  | 50 => ⟨S128x128, .f32⟩
  | 51 => ⟨S16x512x128, .f32⟩
  | 52 => ⟨S16x512x4x32, .f32⟩
  | 53 => ⟨S16x4x512x32, .f32⟩
  | 54 => ⟨S1x128x128, .f32⟩
  | 55 => ⟨S128x128, .f32⟩
  | 56 => ⟨S16x512x128, .f32⟩
  | 57 => ⟨S16x512x4x32, .f32⟩
  | 58 => ⟨S16x4x512x32, .f32⟩
  | 59 => ⟨S16x4x512x512, .f32⟩
  | 60 => ⟨S_, .f32⟩
  | 61 => ⟨S_, .f32⟩
  | 62 => ⟨S16x4x512x512, .f32⟩
  | 63 => ⟨S16x4x512x512, .f32⟩
  | 64 => ⟨S16x4x512x512, .f32⟩
  | 65 => ⟨S16x4x512x512, .f32⟩
  | 66 => ⟨S_, .f32⟩
  | 67 => ⟨S16x4x512, .f32⟩
  | 68 => ⟨S_, .f32⟩
  | 69 => ⟨S16x4x512, .f32⟩
  | 70 => ⟨S16x4x512, .f32⟩
  | 71 => ⟨S16x4x512x1, .f32⟩
  | 72 => ⟨S16x4x512x512, .f32⟩
  | 73 => ⟨S16x4x512x512, .f32⟩
  | 74 => ⟨S16x4x512x512, .f32⟩
  | 75 => ⟨S_, .f32⟩
  | 76 => ⟨S16x4x512, .f32⟩
  | 77 => ⟨S16x4x512x1, .f32⟩
  | 78 => ⟨S16x4x512x512, .f32⟩
  | 79 => ⟨S16x4x512x512, .f32⟩
  | 80 => ⟨S16x4x512x32, .f32⟩
  | 81 => ⟨S16x512x4x32, .f32⟩
  | 82 => ⟨S16x512x128, .f32⟩
  | 83 => ⟨S1x128x128, .f32⟩
  | 84 => ⟨S128x128, .f32⟩
  | 85 => ⟨S16x512x128, .f32⟩
  | 86 => ⟨S16x512x128, .f32⟩
  | 87 => ⟨S_, .f32⟩
  | 88 => ⟨S16x512x128, .f32⟩
  | 89 => ⟨S16x512x128, .f32⟩
  | 90 => ⟨S1x128x128, .f32⟩
  | 91 => ⟨S128x128, .f32⟩
  | 92 => ⟨S16x512x128, .f32⟩
  | 93 => ⟨S16x512x4x32, .f32⟩
  | 94 => ⟨S16x4x512x32, .f32⟩
  | 95 => ⟨S1x128x128, .f32⟩
  | 96 => ⟨S128x128, .f32⟩
  | 97 => ⟨S16x512x128, .f32⟩
  | 98 => ⟨S16x512x4x32, .f32⟩
  | 99 => ⟨S16x4x512x32, .f32⟩
  | 100 => ⟨S1x128x128, .f32⟩
  | 101 => ⟨S128x128, .f32⟩
  | 102 => ⟨S16x512x128, .f32⟩
  | 103 => ⟨S16x512x4x32, .f32⟩
  | 104 => ⟨S16x4x512x32, .f32⟩
  | 105 => ⟨S16x4x512x512, .f32⟩
  | 106 => ⟨S_, .f32⟩
  | 107 => ⟨S_, .f32⟩
  | 108 => ⟨S16x4x512x512, .f32⟩
  | 109 => ⟨S16x4x512x512, .f32⟩
  | 110 => ⟨S16x4x512x512, .f32⟩
  | 111 => ⟨S16x4x512x512, .f32⟩
  | 112 => ⟨S_, .f32⟩
  | 113 => ⟨S16x4x512, .f32⟩
  | 114 => ⟨S_, .f32⟩
  | 115 => ⟨S16x4x512, .f32⟩
  | 116 => ⟨S16x4x512, .f32⟩
  | 117 => ⟨S16x4x512x1, .f32⟩
  | 118 => ⟨S16x4x512x512, .f32⟩
  | 119 => ⟨S16x4x512x512, .f32⟩
  | 120 => ⟨S16x4x512x512, .f32⟩
  | 121 => ⟨S_, .f32⟩
  | 122 => ⟨S16x4x512, .f32⟩
  | 123 => ⟨S16x4x512x1, .f32⟩
  | 124 => ⟨S16x4x512x512, .f32⟩
  | 125 => ⟨S16x4x512x512, .f32⟩
  | 126 => ⟨S16x4x512x32, .f32⟩
  | 127 => ⟨S16x512x4x32, .f32⟩
  | _ => ⟨S16x512x128, .f32⟩

abbrev hbmTy0_1 (i : Nat) : BufTy := match i % 128 with
  | 0 => ⟨S16x512x128, .f32⟩
  | 1 => ⟨S1x128x128, .f32⟩
  | 2 => ⟨S128x128, .f32⟩
  | 3 => ⟨S16x512x128, .f32⟩
  | 4 => ⟨S16x512x128, .f32⟩
  | 5 => ⟨S_, .f32⟩
  | 6 => ⟨S16x512x128, .f32⟩
  | 7 => ⟨S16x512x128, .f32⟩
  | 8 => ⟨S1x128x128, .f32⟩
  | 9 => ⟨S128x128, .f32⟩
  | 10 => ⟨S16x512x128, .f32⟩
  | 11 => ⟨S16x512x4x32, .f32⟩
  | 12 => ⟨S16x4x512x32, .f32⟩
  | 13 => ⟨S1x128x128, .f32⟩
  | 14 => ⟨S128x128, .f32⟩
  | 15 => ⟨S16x512x128, .f32⟩
  | 16 => ⟨S16x512x4x32, .f32⟩
  | 17 => ⟨S16x4x512x32, .f32⟩
  | 18 => ⟨S1x128x128, .f32⟩
  | 19 => ⟨S128x128, .f32⟩
  | 20 => ⟨S16x512x128, .f32⟩
  | 21 => ⟨S16x512x4x32, .f32⟩
  | 22 => ⟨S16x4x512x32, .f32⟩
  | 23 => ⟨S16x4x512x512, .f32⟩
  | 24 => ⟨S_, .f32⟩
  | 25 => ⟨S_, .f32⟩
  | 26 => ⟨S16x4x512x512, .f32⟩
  | 27 => ⟨S16x4x512x512, .f32⟩
  | 28 => ⟨S16x4x512x512, .f32⟩
  | 29 => ⟨S16x4x512x512, .f32⟩
  | 30 => ⟨S_, .f32⟩
  | 31 => ⟨S16x4x512, .f32⟩
  | 32 => ⟨S_, .f32⟩
  | 33 => ⟨S16x4x512, .f32⟩
  | 34 => ⟨S16x4x512, .f32⟩
  | 35 => ⟨S16x4x512x1, .f32⟩
  | 36 => ⟨S16x4x512x512, .f32⟩
  | 37 => ⟨S16x4x512x512, .f32⟩
  | 38 => ⟨S16x4x512x512, .f32⟩
  | 39 => ⟨S_, .f32⟩
  | 40 => ⟨S16x4x512, .f32⟩
  | 41 => ⟨S16x4x512x1, .f32⟩
  | 42 => ⟨S16x4x512x512, .f32⟩
  | 43 => ⟨S16x4x512x512, .f32⟩
  | 44 => ⟨S16x4x512x32, .f32⟩
  | 45 => ⟨S16x512x4x32, .f32⟩
  | 46 => ⟨S16x512x128, .f32⟩
  | 47 => ⟨S1x128x128, .f32⟩
  | 48 => ⟨S128x128, .f32⟩
  | 49 => ⟨S16x512x128, .f32⟩
  | 50 => ⟨S16x512x128, .f32⟩
  | 51 => ⟨S_, .f32⟩
  | 52 => ⟨S16x512x128, .f32⟩
  | 53 => ⟨S16x512x128, .f32⟩
  | 54 => ⟨S16x512x256, .f32⟩
  | 55 => ⟨S1x1x256, .f32⟩
  | 56 => ⟨S16x512x256, .f32⟩
  | 57 => ⟨S16x512x256, .f32⟩
  | 58 => ⟨S_, .f32⟩
  | 59 => ⟨S16x512x256, .f32⟩
  | 60 => ⟨S16x512x256, .f32⟩
  | 61 => ⟨S16x512x128, .f32⟩
  | 62 => ⟨S1x1x128, .f32⟩
  | 63 => ⟨S16x512x128, .f32⟩
  | 64 => ⟨S16x512x128, .f32⟩
  | 65 => ⟨S16x512x128, .f32⟩
  | 66 => ⟨S16x512x128, .f32⟩
  | 67 => ⟨S_, .f32⟩
  | 68 => ⟨S16x512, .f32⟩
  | 69 => ⟨S_, .f32⟩
  | 70 => ⟨S16x512, .f32⟩
  | 71 => ⟨S16x512, .f32⟩
  | 72 => ⟨S16x512, .f32⟩
  | 73 => ⟨S_, .f32⟩
  | 74 => ⟨S_, .f32⟩
  | 75 => ⟨S_, .f32⟩
  | 76 => ⟨S_, .f32⟩
  | 77 => ⟨S_, .f32⟩
  | _ => ⟨S16x512x128, .f32⟩

abbrev hbmTy (i : Nat) : BufTy := match i / 128 with
  | 0 => hbmTy0_0 i
  | 1 => hbmTy0_1 i
  | _ => ⟨S16x512x128, .f32⟩

abbrev bufTy : (tb : Table) → Fin (tcTables nBuf tb) → BufTy
  | .hbm, ⟨i, _⟩ => hbmTy i
  | _, _ => ⟨S16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call0_cst : Ref sig .tc := ⟨.hbm, 87, rfl⟩
abbrev main_call0_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_8 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_9 : Ref sig .tc := ⟨.hbm, 112, rfl⟩
abbrev main_v85 : Ref sig .tc := ⟨.hbm, 113, rfl⟩
abbrev main_cst_10 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_11 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_call1_cst : Ref sig .tc := ⟨.hbm, 133, rfl⟩
abbrev main_call1_v0 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_12 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_13 : Ref sig .tc := ⟨.hbm, 158, rfl⟩
abbrev main_v125 : Ref sig .tc := ⟨.hbm, 159, rfl⟩
abbrev main_cst_14 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_15 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_call2_cst : Ref sig .tc := ⟨.hbm, 179, rfl⟩
abbrev main_call2_v0 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_call3_cst : Ref sig .tc := ⟨.hbm, 186, rfl⟩
abbrev main_call3_v0 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_16 : Ref sig .tc := ⟨.hbm, 195, rfl⟩
abbrev main_v155 : Ref sig .tc := ⟨.hbm, 196, rfl⟩
abbrev main_cst_17 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_18 : Ref sig .tc := ⟨.hbm, 201, rfl⟩
abbrev main_v159 : Ref sig .tc := ⟨.hbm, 202, rfl⟩
abbrev main_cst_19 : Ref sig .tc := ⟨.hbm, 203, rfl⟩
abbrev main_v160 : Ref sig .tc := ⟨.hbm, 204, rfl⟩
abbrev main_v161 : Ref sig .tc := ⟨.hbm, 205, rfl⟩

abbrev nD : Nat := 1
abbrev τ : Topo := Topo.v7x

variable {F : FTy → Type} [FloatOps F]
-- ==== Proof.Model.lean ====
/- The mathematics of one graph, entry by entry over the extended reals, as both programs come to it: the kernel's form
   of one attention layer (no subtraction of the row's maximum, one division per row) and the reference's (softmax). -/
module

public import Idealize.ShloMosaic.PureOps.Ideal

@[expose] public section

noncomputable section

namespace Cert.Attn

open Idealize.ShloMosaic

/-- A matrix of extended reals, by row and column. -/
abbrev Mat (a b : ℕ) := Fin a → Fin b → EReal

/-- The column of the 128 that head `h` reads as its `d`-th. -/
def col (h : Fin 4) (d : Fin 32) : Fin 128 := ⟨32 * h + d, by omega⟩

/-- The head a column belongs to. -/
def headOf (c : Fin 128) : Fin 4 := ⟨c / 32, by omega⟩

/-- A column's place within its head. -/
def placeOf (c : Fin 128) : Fin 32 := ⟨c % 32, by omega⟩

theorem col_headOf (c : Fin 128) : col (headOf c) (placeOf c) = c :=
  Fin.ext (Nat.div_add_mod _ _)

/-- The product of a matrix of 128 columns with a weight of 128 rows. -/
def prod {a b : ℕ} (X : Mat a 128) (W : Mat 128 b) : Mat a b := fun n j => ∑ k, X n k * W k j

/-- Head `h`'s scores: row `n` of the queries with row `m` of the keys. -/
def score (Q K : Mat 512 128) (h : Fin 4) (n m : Fin 512) : EReal := ∑ d, Q n (col h d) * K m (col h d)

/-- The kernel's weights, not yet divided by their sum. -/
def kWeight (Q K : Mat 512 128) (B : Mat 512 512) (h : Fin 4) (n m : Fin 512) : EReal :=
  Ideal.exp (score Q K h n m + B n m)

/-- The kernel's head: the weighted sum of the values, times the reciprocal of the weights' sum. -/
def kHead (Q K V : Mat 512 128) (B : Mat 512 512) (h : Fin 4) (n : Fin 512) (d : Fin 32) : EReal :=
  (∑ m, kWeight Q K B h n m * V m (col h d)) * Ideal.div 1 (∑ m, kWeight Q K B h n m)

/-- The reference's logits: the scores divided by the square root of the head's width, plus the bias. -/
def logit (Q K : Mat 512 128) (B : Mat 512 512) (h : Fin 4) (n m : Fin 512) : EReal :=
  Ideal.div (score Q K h n m) (Ideal.sqrt 32) + B n m

/-- The largest logit of a row. -/
def top (Q K : Mat 512 128) (B : Mat 512 512) (h : Fin 4) (n : Fin 512) : EReal :=
  max ⊥ (Finset.univ.fold max ⊥ fun m => logit Q K B h n m)

/-- The reference's weights, not yet divided by their sum. -/
def rWeight (Q K : Mat 512 128) (B : Mat 512 512) (h : Fin 4) (n m : Fin 512) : EReal :=
  Ideal.exp (logit Q K B h n m - top Q K B h n)

/-- The reference's head: the sum of the values under the softmax of the logits. -/
def rHead (Q K V : Mat 512 128) (B : Mat 512 512) (h : Fin 4) (n : Fin 512) (d : Fin 32) : EReal :=
  ∑ m, Ideal.div (rWeight Q K B h n m) (∑ m', rWeight Q K B h n m') * V m (col h d)

/-- A layer's end, the same in both programs: the heads side by side, times `Wo`, added to the layer's entry and cut
    at zero. -/
def close (H : Mat 512 128) (O : Fin 4 → Fin 512 → Fin 32 → EReal) (Wo : Mat 128 128) : Mat 512 128 :=
  fun n j => max (H n j + ∑ c, O (headOf c) n (placeOf c) * Wo c j) 0

/-- The kernel's layer: the queries' weight is scaled by the reciprocal of the square root of the head's width. -/
def kLayer (B : Mat 512 512) (Wq Wk Wv Wo : Mat 128 128) (H : Mat 512 128) : Mat 512 128 :=
  close H (kHead (prod H fun a c => Wq a c * ((Real.sqrt 32)⁻¹ : ℝ)) (prod H Wk) (prod H Wv) B) Wo

/-- The reference's layer. -/
def rLayer (B : Mat 512 512) (Wq Wk Wv Wo : Mat 128 128) (H : Mat 512 128) : Mat 512 128 :=
  close H (rHead (prod H Wq) (prod H Wk) (prod H Wv) B) Wo

/-- The weights both programs read. -/
structure Weights where
  token : Fin 128 → EReal
  Win : Mat 128 128
  bin : Fin 128 → EReal
  Wq : Fin 3 → Mat 128 128
  Wk : Fin 3 → Mat 128 128
  Wv : Fin 3 → Mat 128 128
  Wo : Fin 3 → Mat 128 128
  W1 : Mat 128 256
  b1 : Fin 256 → EReal
  W2 : Mat 256 128
  b2 : Fin 128 → EReal

/-- A product with a weight, plus a bias on every row. -/
def affine {K b : ℕ} (X : Mat 512 K) (W : Mat K b) (c : Fin b → EReal) : Mat 512 b :=
  fun n j => (∑ k, X n k * W k j) + c j

/-- The three layers over the entry's affine map, with `L` for one layer. -/
def encode (L : Mat 128 128 → Mat 128 128 → Mat 128 128 → Mat 128 128 → Mat 512 128 → Mat 512 128) (w : Weights)
    (X : Mat 512 128) : Mat 512 128 :=
  L (w.Wq 2) (w.Wk 2) (w.Wv 2) (w.Wo 2) (L (w.Wq 1) (w.Wk 1) (w.Wv 1) (w.Wo 1)
    (L (w.Wq 0) (w.Wk 0) (w.Wv 0) (w.Wo 0) (affine X w.Win w.bin)))

/-- The decoder: two affine maps with a cut at zero between. -/
def decode (w : Weights) (H : Mat 512 128) : Mat 512 128 :=
  affine (fun n c => max (affine H w.W1 w.b1 n c) 0) w.W2 w.b2

/-- A row's loss: the mean over its 128 features of the squared difference (the word is 128's). -/
def rowLoss (P X : Mat 512 128) (n : Fin 512) : EReal :=
  Ideal.div (∑ j, (P n j - X n j) * (P n j - X n j)) (Ideal.ofBits .f32 0x43000000#32)

/-- The kernel's masked rows: `x · (1 − m) + m · token`. -/
def blend (t : Fin 128 → EReal) (M : Fin 512 → EReal) (X : Mat 512 128) : Mat 512 128 :=
  fun n k => X n k * (1 - M n) + M n * t k

/-- The kernel's prediction of one graph. -/
def kPred (w : Weights) (X : Mat 512 128) (B : Mat 512 512) (M : Fin 512 → EReal) : Mat 512 128 :=
  decode w (encode (kLayer B) w (blend w.token M X))

/-- The kernel's sum of one graph's masked losses. -/
def kNum (w : Weights) (X : Mat 512 128) (B : Mat 512 512) (M : Fin 512 → EReal) : EReal :=
  ∑ n, rowLoss (kPred w X B M) X n * M n

end Cert.Attn

end
-- ==== Proof.KernelHead.lean ====
/- One attention head and one layer of the kernel, as vectors and read at an entry. -/
module

public import proofs.«01_k».proof.Proof.Gen.KernelIdeal.Skeleton
public import proofs.«01_k».proof.Proof.Model
public import Idealize.ShloMosaic.Lib.Pointwise
public import Idealize.ShloMosaic.PureOps.IdealRules

@[expose] public section

set_option maxRecDepth 16384

noncomputable section

namespace Cert.Attn

open Idealize.ShloMosaic Cert.KernelIdeal Cert.KernelIdeal.Gen

/-- The row of 33 sums of one head: the weights `exp (q · k + bias)` times the head's 32 columns of `v`, and times a
    column of ones. -/
def headSums (off : ℕ) (hs : S512x128.Slices ![0, off] S512x32) (b : FVec Ideal S512x512 .f32)
    (q k v : FVec Ideal S512x128 .f32) : FVec Ideal S512x33 .f32 :=
  matmul dot_S512x512_S512x33_S512x33_1_0_0_1_n_n none
    (exp (addf (matmul dot_S512x32_S512x32_S512x512_1_1_0_0_n_n none (extractStridedSlice S512x32 ![0, off] q hs)
      (extractStridedSlice S512x32 ![0, off] k hs) (constant S512x512 .f32 0x00000000#32)) b))
    (concatenate S512x33 1 [⟨S512x32, extractStridedSlice S512x32 ![0, off] v hs⟩,
      ⟨S512x1, broadcast S512x1 (Scalar.ofBits .f32 0x3F800000#32)⟩] concatenates_S512x32_S512x1_S512x33_d1)
    (constant S512x33 .f32 0x00000000#32)

/-- One head's output: the first 32 sums times the reciprocal of the last. -/
def headOut (off : ℕ) (hs : S512x128.Slices ![0, off] S512x32) (b : FVec Ideal S512x512 .f32)
    (q k v : FVec Ideal S512x128 .f32) : FVec Ideal S512x32 .f32 :=
  mulf (extractStridedSlice S512x32 ![0, 0] (headSums off hs b q k v) slices_S512x33_o0_0_S512x32)
    (broadcastTo S512x32 (divf (broadcast S512x1 (Scalar.ofBits .f32 0x3F800000#32))
      (extractStridedSlice S512x1 ![0, 32] (headSums off hs b q k v) slices_S512x33_o0_32_S512x1))
      broadcasts_S512x1_S512x32)

/-- The matrix a vector of two axes holds. -/
abbrev mat {a b : ℕ} (x : FVec Ideal ⟨2, ![a, b]⟩ .f32) : Mat a b := fun i j => x (ix2 i j)

theorem headOut_apply (h : Fin 4) (off : ℕ) (ho : off = 32 * h) (hs : S512x128.Slices ![0, off] S512x32)
    (b : FVec Ideal S512x512 .f32) (q k v : FVec Ideal S512x128 .f32) (n : Fin 512) (d : Fin 32) :
    headOut off hs b q k v (ix2 n d) = kHead (mat q) (mat k) (mat v) (mat b) h n d := by
  subst ho
  pointwise [headOut, headSums]
  rfl

/-- The product of the layer's entry with one of its weights. -/
def project (H : FVec Ideal S512x128 .f32) (w : FVec Ideal S128x128 .f32) : FVec Ideal S512x128 .f32 :=
  matmul dot_S512x128_S128x128_S512x128_1_0_0_1_n_n none H w (constant S512x128 .f32 0x00000000#32)

/-- A layer's weight as a matrix: the leading axis of extent one dropped. -/
def flat (w : FVec Ideal S1x128x128 .f32) : FVec Ideal S128x128 .f32 :=
  shapeCast S128x128 w shapeCasts_S1x128x128_S128x128

/-- The queries' weight, scaled. -/
def scaled (w : FVec Ideal S1x128x128 .f32) : FVec Ideal S128x128 .f32 :=
  mulf (flat w) (broadcast S128x128 (Named.named κ "inv_sqrt_dh" 0x3E3504F3#32))

/-- The four heads side by side. -/
def heads (b : FVec Ideal S512x512 .f32) (q k v : FVec Ideal S512x128 .f32) : FVec Ideal S512x128 .f32 :=
  concatenate S512x128 1 [⟨S512x32, headOut 0 slices_S512x128_o0_0_S512x32 b q k v⟩,
    ⟨S512x32, headOut 32 slices_S512x128_o0_32_S512x32 b q k v⟩,
    ⟨S512x32, headOut 64 slices_S512x128_o0_64_S512x32 b q k v⟩,
    ⟨S512x32, headOut 96 slices_S512x128_o0_96_S512x32 b q k v⟩]
    concatenates_S512x32_S512x32_S512x32_S512x32_S512x128_d1

/-- What a layer adds to its entry. -/
def attended (b : FVec Ideal S512x512 .f32) (wq wk wv wo : FVec Ideal S1x128x128 .f32) (H : FVec Ideal S512x128 .f32) :
    FVec Ideal S512x128 .f32 :=
  project (heads b (project H (scaled wq)) (project H (flat wk)) (project H (flat wv))) (flat wo)

/-- One layer of the kernel. -/
def layer (b : FVec Ideal S512x512 .f32) (wq wk wv wo : FVec Ideal S1x128x128 .f32) (H : FVec Ideal S512x128 .f32) :
    FVec Ideal S512x128 .f32 :=
  maximumf (addf H (attended b wq wk wv wo H)) (broadcast S512x128 (Scalar.ofBits .f32 0x00000000#32))

/-- The matrix a layer's weight holds. -/
abbrev wmat (w : FVec Ideal S1x128x128 .f32) : Mat 128 128 := fun i j => w (ix3 0 i j)

theorem mat_project (H : FVec Ideal S512x128 .f32) (w : FVec Ideal S128x128 .f32) :
    mat (project H w) = prod (mat H) (mat w) := by
  funext n j
  show project H w (ix2 n j) = _
  pointwise [project]
  rfl

theorem mat_flat (w : FVec Ideal S1x128x128 .f32) : mat (flat w) = wmat w := by
  funext n j
  pointwise [flat]

/-- The named constant is the reciprocal of the square root of 32. -/
theorem named_scale : IdealRules.named_const.Statement κ "inv_sqrt_dh" .f32 0x3E3504F3#32
    (((Real.sqrt 32)⁻¹ : ℝ) : EReal) :=
  IdealRules.named_const.statement κ "inv_sqrt_dh" .f32 0x3E3504F3#32 (((Real.sqrt 32)⁻¹ : ℝ) : EReal) rfl

theorem mat_scaled (w : FVec Ideal S1x128x128 .f32) :
    mat (scaled w) = fun a c => wmat w a c * ((Real.sqrt 32)⁻¹ : ℝ) := by
  funext n j
  show scaled w (ix2 n j) = _
  pointwise [scaled, flat]
  rw [named_scale.2.2]

/-- The entry of column `c` is its head's, at the column's place there. -/
theorem mat_heads (b : FVec Ideal S512x512 .f32) (q k v : FVec Ideal S512x128 .f32) (n : Fin 512) (c : Fin 128) :
    mat (heads b q k v) n c = kHead (mat q) (mat k) (mat v) (mat b) (headOf c) n (placeOf c) := by
  show heads b q k v (ix2 n c) = _
  have key : ∀ (h : Fin 4) (off : ℕ) (hs : S512x128.Slices ![0, off] S512x32) (d : Fin 32), off = 32 * h →
      (c : ℕ) = 32 * h + d → headOut off hs b q k v (ix2 n d)
        = kHead (mat q) (mat k) (mat v) (mat b) (headOf c) n (placeOf c) := by
    intro h off hs d ho hc
    rw [headOut_apply h off ho]
    have e₁ : headOf c = h := Fin.ext (by simp only [headOf]; omega)
    have e₂ : placeOf c = d := Fin.ext (by simp only [placeOf]; omega)
    rw [e₁, e₂]
  pointwise [heads]
  by_cases h₁ : (c : ℕ) < 32
  · rw [dif_pos h₁]
    exact key 0 0 _ ⟨c, h₁⟩ rfl (Nat.zero_add _).symm
  rw [dif_neg h₁]
  by_cases h₂ : (c : ℕ) - 32 < 32
  · rw [dif_pos h₂]
    exact key 1 32 _ ⟨c - 32, h₂⟩ rfl (by show (c : ℕ) = 32 * 1 + (c - 32); omega)
  rw [dif_neg h₂]
  by_cases h₃ : (c : ℕ) - 32 - 32 < 32
  · rw [dif_pos h₃]
    exact key 2 64 _ ⟨c - 32 - 32, h₃⟩ rfl (by show (c : ℕ) = 32 * 2 + (c - 32 - 32); omega)
  rw [dif_neg h₃]
  exact key 3 96 _ ⟨c - 32 - 32 - 32, by omega⟩ rfl (by show (c : ℕ) = 32 * 3 + (c - 32 - 32 - 32); omega)

/-- A layer's entries are the kernel's layer of the entries of what it reads. -/
theorem mat_layer (b : FVec Ideal S512x512 .f32) (wq wk wv wo : FVec Ideal S1x128x128 .f32)
    (H : FVec Ideal S512x128 .f32) :
    mat (layer b wq wk wv wo H) = kLayer (mat b) (wmat wq) (wmat wk) (wmat wv) (wmat wo) (mat H) := by
  funext n j
  show layer b wq wk wv wo H (ix2 n j) = _
  have h : attended b wq wk wv wo H (ix2 n j)
      = prod (mat (heads b (project H (scaled wq)) (project H (flat wk)) (project H (flat wv)))) (mat (flat wo)) n j :=
    congrFun (congrFun (mat_project _ _) n) j
  rw [mat_flat] at h
  pointwise [layer]
  rw [h]
  simp only [prod, mat_heads, mat_project, mat_flat, mat_scaled]
  rfl

end Cert.Attn

end
-- ==== Proof.KernelBlock.lean ====
/- What one grid point of the kernel writes, as a function of the blocks it reads: the prediction of one graph and the
   sum of its masked losses. -/
module

public import proofs.«01_k».proof.Proof.Gen.KernelIdeal.Frame
public import proofs.«01_k».proof.Proof.KernelHead

@[expose] public section

set_option maxRecDepth 16384

noncomputable section

namespace Cert.Attn

open Idealize.ShloMosaic Cert.KernelIdeal Cert.KernelIdeal.Gen

variable (x0 : Vec Ideal S1x512x128 .f32) (x1 x2 : Vec Ideal S1x512x512 .f32) (x3 : Vec Ideal S1x512x1 .f32)
  (x4 : Vec Ideal S1x128 .f32) (x5 : Vec Ideal S128x128 .f32) (x6 : Vec Ideal S1x128 .f32)
  (x7 x8 x9 x10 : Vec Ideal S3x128x128 .f32) (x11 : Vec Ideal S128x256 .f32) (x12 : Vec Ideal S1x256 .f32)
  (x13 : Vec Ideal S256x128 .f32) (x14 : Vec Ideal S1x128 .f32)

/-- The weights the blocks hold. -/
def weights : Weights where
  token k := x4 (ix2 0 k)
  Win i j := x5 (ix2 i j)
  bin j := x6 (ix2 0 j)
  Wq l i j := x7 (ix3 l i j)
  Wk l i j := x8 (ix3 l i j)
  Wv l i j := x9 (ix3 l i j)
  Wo l i j := x10 (ix3 l i j)
  W1 i j := x11 (ix2 i j)
  b1 j := x12 (ix2 0 j)
  W2 i j := x13 (ix2 i j)
  b2 j := x14 (ix2 0 j)

/-- The first layer, of the entry and the bias the payloads compute. -/
theorem pay50_eq : k0_pay50 x0 x1 x2 x3 x4 x5 x6 x7 x8 x9 x10 x11 x12 x13 x14
    = layer (k0_pay40 x0 x1 x2 x3 x4 x5 x6 x7 x8 x9 x10 x11 x12 x13 x14)
      (View.ld x7 r0_5) (View.ld x8 r0_5) (View.ld x9 r0_5) (View.ld x10 r0_5)
      (k0_pay39 x0 x1 x2 x3 x4 x5 x6 x7 x8 x9 x10 x11 x12 x13 x14) := rfl

theorem pay60_eq : k0_pay60 x0 x1 x2 x3 x4 x5 x6 x7 x8 x9 x10 x11 x12 x13 x14
    = layer (k0_pay40 x0 x1 x2 x3 x4 x5 x6 x7 x8 x9 x10 x11 x12 x13 x14)
      (View.ld x7 r0_6) (View.ld x8 r0_6) (View.ld x9 r0_6) (View.ld x10 r0_6)
      (k0_pay50 x0 x1 x2 x3 x4 x5 x6 x7 x8 x9 x10 x11 x12 x13 x14) := rfl

theorem pay61_eq : k0_pay61 x0 x1 x2 x3 x4 x5 x6 x7 x8 x9 x10 x11 x12 x13 x14
    = attended (k0_pay40 x0 x1 x2 x3 x4 x5 x6 x7 x8 x9 x10 x11 x12 x13 x14)
      (View.ld x7 r0_7) (View.ld x8 r0_7) (View.ld x9 r0_7) (View.ld x10 r0_7)
      (k0_pay60 x0 x1 x2 x3 x4 x5 x6 x7 x8 x9 x10 x11 x12 x13 x14) := rfl

/-- A load of one layer's weight reads that layer of the three. -/
theorem wmat_ld (x : Vec Ideal S3x128x128 .f32) :
    wmat (View.ld x r0_5) = (fun i j => x (ix3 0 i j)) ∧ wmat (View.ld x r0_6) = (fun i j => x (ix3 1 i j))
      ∧ wmat (View.ld x r0_7) = (fun i j => x (ix3 2 i j)) := by
  refine ⟨funext fun i => funext fun j => ?_, funext fun i => funext fun j => ?_, funext fun i => funext fun j => ?_⟩
  · show View.ld x r0_5 (ix3 0 i j) = _
    pointwise []
  · show View.ld x r0_6 (ix3 0 i j) = _
    pointwise []
  · show View.ld x r0_7 (ix3 0 i j) = _
    pointwise []

/-- The rows one graph's block holds. -/
def rows {a b : ℕ} (x : Vec Ideal ⟨3, ![1, a, b]⟩ .f32) : Mat a b := fun i j => x (ix3 0 i j)

/-- The mask's column, one entry a row. -/
def flags (x : Vec Ideal S1x512x1 .f32) : Fin 512 → EReal := fun n => x (ix3 0 n 0)

/-- The bias: the sum of the two arrays. -/
def biasOf (x1 x2 : Vec Ideal S1x512x512 .f32) : Mat 512 512 := fun n m => rows x1 n m + rows x2 n m

theorem mat_pay39 : mat (k0_pay39 x0 x1 x2 x3 x4 x5 x6 x7 x8 x9 x10 x11 x12 x13 x14)
    = affine (blend (weights x4 x5 x6 x7 x8 x9 x10 x11 x12 x13 x14).token (flags x3) (rows x0))
      (weights x4 x5 x6 x7 x8 x9 x10 x11 x12 x13 x14).Win (weights x4 x5 x6 x7 x8 x9 x10 x11 x12 x13 x14).bin := by
  funext n j
  show k0_pay39 x0 x1 x2 x3 x4 x5 x6 x7 x8 x9 x10 x11 x12 x13 x14 (ix2 n j) = _
  pointwise [k0_pay39, k0_pay3, k0_pay2, k0_pay1]
  rfl

theorem mat_pay40 : mat (k0_pay40 x0 x1 x2 x3 x4 x5 x6 x7 x8 x9 x10 x11 x12 x13 x14) = biasOf x1 x2 := by
  funext n j
  show k0_pay40 x0 x1 x2 x3 x4 x5 x6 x7 x8 x9 x10 x11 x12 x13 x14 (ix2 n j) = _
  pointwise [k0_pay40, k0_pay4]
  rfl

/-- The last layer, from the sum the payloads cut it at. -/
def closed (H A : FVec Ideal S512x128 .f32) : FVec Ideal S512x128 .f32 :=
  maximumf (addf H A) (broadcast S512x128 (Scalar.ofBits .f32 0x00000000#32))

theorem mat_closed (H A : FVec Ideal S512x128 .f32) :
    mat (closed H A) = fun n j => max (H (ix2 n j) + A (ix2 n j)) 0 := by
  funext n j
  show closed H A (ix2 n j) = _
  pointwise [closed]

/-- The decoder of the last layer. -/
theorem pay36_apply (H A : FVec Ideal S512x128 .f32) (n : Fin 512) (j : Fin 128) :
    k0_pay36 H A (View.ld x11 r0_8) (View.ld x12 r0_9) (View.ld x13 r0_10) (View.ld x14 r0_2) (ix2 n j)
      = decode (weights x4 x5 x6 x7 x8 x9 x10 x11 x12 x13 x14) (mat (closed H A)) n j := by
  rw [mat_closed]
  pointwise [k0_pay36]
  rfl

/-- The last layer's end: three layers over the entry. -/
theorem mat_last : mat (closed (k0_pay60 x0 x1 x2 x3 x4 x5 x6 x7 x8 x9 x10 x11 x12 x13 x14)
      (k0_pay61 x0 x1 x2 x3 x4 x5 x6 x7 x8 x9 x10 x11 x12 x13 x14))
    = encode (kLayer (biasOf x1 x2)) (weights x4 x5 x6 x7 x8 x9 x10 x11 x12 x13 x14)
      (blend (weights x4 x5 x6 x7 x8 x9 x10 x11 x12 x13 x14).token (flags x3) (rows x0)) := by
  rw [pay61_eq]
  show mat (layer _ _ _ _ _ _) = _
  rw [mat_layer, pay60_eq, mat_layer, pay50_eq, mat_layer, mat_pay39, mat_pay40]
  simp only [(wmat_ld _).1, (wmat_ld _).2.1, (wmat_ld _).2.2]
  rfl

/-- The prediction's entries. -/
theorem pred_apply (n : Fin 512) (j : Fin 128) :
    k0_pay36 (k0_pay60 x0 x1 x2 x3 x4 x5 x6 x7 x8 x9 x10 x11 x12 x13 x14)
      (k0_pay61 x0 x1 x2 x3 x4 x5 x6 x7 x8 x9 x10 x11 x12 x13 x14)
      (View.ld x11 r0_8) (View.ld x12 r0_9) (View.ld x13 r0_10) (View.ld x14 r0_2) (ix2 n j)
      = kPred (weights x4 x5 x6 x7 x8 x9 x10 x11 x12 x13 x14) (rows x0) (biasOf x1 x2) (flags x3) n j := by
  rw [pay36_apply x4 x5 x6 x7 x8 x9 x10, mat_last]
  rfl

/-- What a point stores in the prediction's block. -/
theorem out15_apply (n : Fin 512) (j : Fin 128) :
    out0_15 x0 x1 x2 x3 x4 x5 x6 x7 x8 x9 x10 x11 x12 x13 x14 (ix3 0 n j)
      = kPred (weights x4 x5 x6 x7 x8 x9 x10 x11 x12 x13 x14) (rows x0) (biasOf x1 x2) (flags x3) n j := by
  rw [← pred_apply]
  unfold out0_15
  rw [View.canon_unit_zero (by funext i; fin_cases i <;> rfl)]
  pointwise [k0_pay37]

/-- What a point stores in the masked losses' block. -/
theorem out16_apply :
    out0_16 x0 x1 x2 x3 x4 x5 x6 x7 x8 x9 x10 x11 x12 x13 x14 (ix3 0 0 0)
      = kNum (weights x4 x5 x6 x7 x8 x9 x10 x11 x12 x13 x14) (rows x0) (biasOf x1 x2) (flags x3) := by
  unfold out0_16
  rw [View.canon_unit_zero (by funext i; fin_cases i <;> rfl)]
  pointwise [k0_pay38, k0_pay1, k0_pay2]
  simp only [pred_apply]
  rfl

end Cert.Attn

end
-- ==== Proof.Arrays.lean ====
/- The fourteen arguments as one record, and what each graph of the batch finds in them. -/
module

public import proofs.«01_k».proof.Proof.Gen.KernelIdeal
public import proofs.«01_k».proof.Proof.Model
public import Idealize.ShloMosaic.Lib.Pointwise

@[expose] public section

set_option maxRecDepth 16384

noncomputable section

namespace Cert.Attn

open Idealize.ShloMosaic Cert.KernelIdeal

/-- The arguments, in the order of the call. -/
structure Arrays where
  x : Vec Ideal S16x512x128 .f32
  A : Vec Ideal S16x512x512 .f32
  Aphi : Vec Ideal S16x512x512 .f32
  token : Vec Ideal S1x1x128 .f32
  Win : Vec Ideal S128x128 .f32
  bin : Vec Ideal S128 .f32
  Wq : Vec Ideal S3x128x128 .f32
  Wk : Vec Ideal S3x128x128 .f32
  Wv : Vec Ideal S3x128x128 .f32
  Wo : Vec Ideal S3x128x128 .f32
  W1 : Vec Ideal S128x256 .f32
  b1 : Vec Ideal S256 .f32
  W2 : Vec Ideal S256x128 .f32
  b2 : Vec Ideal S128 .f32

variable (a : Arrays)

/-- The weights, which all the graphs share. -/
def Arrays.weights : Weights where
  token k := a.token (ix3 0 0 k)
  Win i j := a.Win (ix2 i j)
  bin j := a.bin (ix1 j)
  Wq l i j := a.Wq (ix3 l i j)
  Wk l i j := a.Wk (ix3 l i j)
  Wv l i j := a.Wv (ix3 l i j)
  Wo l i j := a.Wo (ix3 l i j)
  W1 i j := a.W1 (ix2 i j)
  b1 j := a.b1 (ix1 j)
  W2 i j := a.W2 (ix2 i j)
  b2 j := a.b2 (ix1 j)

/-- Graph `b`'s features. -/
def Arrays.graph (b : Fin 16) : Mat 512 128 := fun n k => a.x (ix3 b n k)

/-- Graph `b`'s bias on the logits. -/
def Arrays.bias (b : Fin 16) : Mat 512 512 := fun n k => a.A (ix3 b n k) + a.Aphi (ix3 b n k)

/-- The mask the kernel's launch holds as a literal. -/
def maskArr : Vec Ideal S16x512 .f32 := fun i => (FloatOps.ofBits .f32 (lit0 (S16x512.rowMajor i)) : Ideal .f32)

/-- Graph `b`'s row flags. -/
def flag (b : Fin 16) : Fin 512 → EReal := fun n => maskArr (ix2 b n)

/-- The kernel's predictions, all graphs. -/
def kPredArr : Vec Ideal S16x512x128 .f32 :=
  fun i => kPred a.weights (a.graph (i 0)) (a.bias (i 0)) (flag (i 0)) (i 1) (i 2)

/-- The kernel's masked losses, one number for each graph. -/
def kNumArr : Vec Ideal S16x1x1 .f32 :=
  fun i => kNum a.weights (a.graph (i 0)) (a.bias (i 0)) (flag (i 0))

end Cert.Attn

end
-- ==== Proof.KernelRun.lean ====
/- What the kernel's three results hold after the run. -/
module

public import proofs.«01_k».proof.Proof.KernelBlock
public import proofs.«01_k».proof.Proof.Arrays
public import Idealize.ShloMosaic.Lib.Pipeline.ValueKit
public import Idealize.ShloMosaic.Lib.Claim

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

/-- The arguments a device is launched with. -/
def argsOf : Arrays where
  x := m ((c : Thread nD τ).loc main_arg0)
  A := m ((c : Thread nD τ).loc main_arg1)
  Aphi := m ((c : Thread nD τ).loc main_arg2)
  token := m ((c : Thread nD τ).loc main_arg3)
  Win := m ((c : Thread nD τ).loc main_arg4)
  bin := m ((c : Thread nD τ).loc main_arg5)
  Wq := m ((c : Thread nD τ).loc main_arg6)
  Wk := m ((c : Thread nD τ).loc main_arg7)
  Wv := m ((c : Thread nD τ).loc main_arg8)
  Wo := m ((c : Thread nD τ).loc main_arg9)
  W1 := m ((c : Thread nD τ).loc main_arg10)
  b1 := m ((c : Thread nD τ).loc main_arg11)
  W2 := m ((c : Thread nD τ).loc main_arg12)
  b2 := m ((c : Thread nD τ).loc main_arg13)

/-- The place of each window's block at a point: graph `t` of the batched arrays, the one block of the shared ones. -/
theorem places : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![0, 0]
    ∧ win0_5.index t = ![0, 0] ∧ win0_6.index t = ![0, 0] ∧ win0_7.index t = ![0, 0, 0]
    ∧ win0_8.index t = ![0, 0, 0] ∧ win0_9.index t = ![0, 0, 0] ∧ win0_10.index t = ![0, 0, 0]
    ∧ win0_11.index t = ![0, 0] ∧ win0_12.index t = ![0, 0] ∧ win0_13.index t = ![0, 0] ∧ win0_14.index t = ![0, 0]
    ∧ win0_15.index t = ![t.val, 0, 0] ∧ win0_16.index t = ![t.val, 0, 0] := by decide +kernel

/-- The graph a point works on. -/
abbrev graphOf (t : Fin cfg0.N) : Fin 16 := ⟨t.val, by have := t.isLt; have : cfg0.N = 16 := N_0; omega⟩

theorem rows_eq (t : Fin cfg0.N) : rows (iblk m c 0 t) = (argsOf m c).graph (graphOf t) := by
  funext n k
  show (iblk m c 0 t : Vec Ideal S1x512x128 .f32) (ix3 0 n k) = (m ((c : Thread nD τ).loc main_arg0)) (ix3 (graphOf t) n k)
  blk_ext [iblk, V, places t]

theorem bias_eq (t : Fin cfg0.N) : biasOf (iblk m c 1 t) (iblk m c 2 t) = (argsOf m c).bias (graphOf t) := by
  funext n k
  have h1 : (iblk m c 1 t : Vec Ideal S1x512x512 .f32) (ix3 0 n k) = (argsOf m c).A (ix3 (graphOf t) n k) := by
    show _ = (m ((c : Thread nD τ).loc main_arg1)) (ix3 (graphOf t) n k)
    blk_ext [iblk, V, places t]
  have h2 : (iblk m c 2 t : Vec Ideal S1x512x512 .f32) (ix3 0 n k) = (argsOf m c).Aphi (ix3 (graphOf t) n k) := by
    show _ = (m ((c : Thread nD τ).loc main_arg2)) (ix3 (graphOf t) n k)
    blk_ext [iblk, V, places t]
  exact congrArg₂ (fun u v : EReal => u + v) h1 h2

/-- The operands the lines before the region make: the literal mask and four reshaped arguments. -/
theorem V_mask : V m c main_v0 = shapeCast S16x512x1 maskArr shapeCasts_S16x512_S16x512x1 := by
  entry_read
  rfl
theorem V_token : V m c main_v1 = shapeCast S1x128 (argsOf m c).token shapeCasts_S1x1x128_S1x128 := by
  entry_read
  rfl
theorem V_bin : V m c main_v2 = shapeCast S1x128 (argsOf m c).bin shapeCasts_S128_S1x128 := by
  entry_read
  rfl
theorem V_b1 : V m c main_v3 = shapeCast S1x256 (argsOf m c).b1 shapeCasts_S256_S1x256 := by
  entry_read
  rfl
theorem V_b2 : V m c main_v4 = shapeCast S1x128 (argsOf m c).b2 shapeCasts_S128_S1x128 := by
  entry_read
  rfl

theorem flags_eq (t : Fin cfg0.N) : flags (iblk m c 3 t) = flag (graphOf t) := by
  funext n
  have h : (iblk m c 3 t : Vec Ideal S1x512x1 .f32) (ix3 0 n 0)
      = (V m c main_v0 : Vec Ideal S16x512x1 .f32) (ix3 (graphOf t) n 0) := by
    blk_ext [iblk, places t]
  refine h.trans ?_
  rw [V_mask]
  show _ = maskArr (ix2 (graphOf t) n)
  generalize maskArr = x
  pointwise []

/-- The reshaped vectors, as every point reads them. -/
theorem vectors_eq (t : Fin cfg0.N) :
    (∀ k, (iblk m c 4 t : Vec Ideal S1x128 .f32) (ix2 0 k) = (argsOf m c).token (ix3 0 0 k))
    ∧ (∀ k, (iblk m c 6 t : Vec Ideal S1x128 .f32) (ix2 0 k) = (argsOf m c).bin (ix1 k))
    ∧ (∀ k, (iblk m c 12 t : Vec Ideal S1x256 .f32) (ix2 0 k) = (argsOf m c).b1 (ix1 k))
    ∧ (∀ k, (iblk m c 14 t : Vec Ideal S1x128 .f32) (ix2 0 k) = (argsOf m c).b2 (ix1 k)) := by
  refine ⟨?_, ?_, ?_, ?_⟩
  · intro k
    refine Eq.trans (b := (V m c main_v1 : Vec Ideal S1x128 .f32) (ix2 0 k)) (by blk_ext [iblk, places t]) ?_
    rw [V_token]
    pointwise []
  · intro k
    refine Eq.trans (b := (V m c main_v2 : Vec Ideal S1x128 .f32) (ix2 0 k)) (by blk_ext [iblk, places t]) ?_
    rw [V_bin]
    pointwise []
  · intro k
    refine Eq.trans (b := (V m c main_v3 : Vec Ideal S1x256 .f32) (ix2 0 k)) (by blk_ext [iblk, places t]) ?_
    rw [V_b1]
    pointwise []
  · intro k
    refine Eq.trans (b := (V m c main_v4 : Vec Ideal S1x128 .f32) (ix2 0 k)) (by blk_ext [iblk, places t]) ?_
    rw [V_b2]
    pointwise []

/-- The layers' weights, as every point reads them. -/
theorem layers_eq (t : Fin cfg0.N) :
    (∀ l i j, (iblk m c 7 t : Vec Ideal S3x128x128 .f32) (ix3 l i j) = (argsOf m c).Wq (ix3 l i j))
    ∧ (∀ l i j, (iblk m c 8 t : Vec Ideal S3x128x128 .f32) (ix3 l i j) = (argsOf m c).Wk (ix3 l i j))
    ∧ (∀ l i j, (iblk m c 9 t : Vec Ideal S3x128x128 .f32) (ix3 l i j) = (argsOf m c).Wv (ix3 l i j))
    ∧ (∀ l i j, (iblk m c 10 t : Vec Ideal S3x128x128 .f32) (ix3 l i j) = (argsOf m c).Wo (ix3 l i j)) := by
  refine ⟨?_, ?_, ?_, ?_⟩
  · intro l i j
    show _ = (m ((c : Thread nD τ).loc main_arg6)) (ix3 l i j)
    blk_ext [iblk, V, places t]
  · intro l i j
    show _ = (m ((c : Thread nD τ).loc main_arg7)) (ix3 l i j)
    blk_ext [iblk, V, places t]
  · intro l i j
    show _ = (m ((c : Thread nD τ).loc main_arg8)) (ix3 l i j)
    blk_ext [iblk, V, places t]
  · intro l i j
    show _ = (m ((c : Thread nD τ).loc main_arg9)) (ix3 l i j)
    blk_ext [iblk, V, places t]

/-- The entry's and the decoder's weights, as every point reads them. -/
theorem matrices_eq (t : Fin cfg0.N) :
    (∀ i j, (iblk m c 5 t : Vec Ideal S128x128 .f32) (ix2 i j) = (argsOf m c).Win (ix2 i j))
    ∧ (∀ i j, (iblk m c 11 t : Vec Ideal S128x256 .f32) (ix2 i j) = (argsOf m c).W1 (ix2 i j))
    ∧ (∀ i j, (iblk m c 13 t : Vec Ideal S256x128 .f32) (ix2 i j) = (argsOf m c).W2 (ix2 i j)) := by
  refine ⟨?_, ?_, ?_⟩
  · intro i j
    show _ = (m ((c : Thread nD τ).loc main_arg4)) (ix2 i j)
    blk_ext [iblk, V, places t]
  · intro i j
    show _ = (m ((c : Thread nD τ).loc main_arg10)) (ix2 i j)
    blk_ext [iblk, V, places t]
  · intro i j
    show _ = (m ((c : Thread nD τ).loc main_arg12)) (ix2 i j)
    blk_ext [iblk, V, places t]

/-- The weights every point reads are the arguments'. -/
theorem weights_eq (t : Fin cfg0.N) : weights (iblk m c 4 t) (iblk m c 5 t) (iblk m c 6 t) (iblk m c 7 t) (iblk m c 8 t)
    (iblk m c 9 t) (iblk m c 10 t) (iblk m c 11 t) (iblk m c 12 t) (iblk m c 13 t) (iblk m c 14 t)
    = (argsOf m c).weights := by
  obtain ⟨h4, h6, h12, h14⟩ := vectors_eq m c t
  obtain ⟨h7, h8, h9, h10⟩ := layers_eq m c t
  obtain ⟨h5, h11, h13⟩ := matrices_eq m c t
  unfold weights Arrays.weights
  congr 1
  · exact funext h4
  · exact funext fun i => funext (h5 i)
  · exact funext h6
  · exact funext fun l => funext fun i => funext (h7 l i)
  · exact funext fun l => funext fun i => funext (h8 l i)
  · exact funext fun l => funext fun i => funext (h9 l i)
  · exact funext fun l => funext fun i => funext (h10 l i)
  · exact funext fun i => funext (h11 i)
  · exact funext h12
  · exact funext fun i => funext (h13 i)
  · exact funext h14

/-- What a point leaves in its two blocks. -/
theorem block_pred (t : Fin cfg0.N) (n : Fin 512) (j : Fin 128) :
    ((dats m 0 c).after 15 t : Vec Ideal S1x512x128 .f32) (ix3 0 n j)
      = kPredArr (argsOf m c) (ix3 (graphOf t) n j) := by
  rw [after0_15]
  refine (out15_apply _ _ _ _ _ _ _ _ _ _ _ _ _ _ _ n j).trans ?_
  rw [weights_eq, rows_eq, bias_eq, flags_eq]
  rfl

theorem block_num (t : Fin cfg0.N) :
    ((dats m 0 c).after 16 t : Vec Ideal S1x1x1 .f32) (ix3 0 0 0)
      = kNumArr (argsOf m c) (ix3 (graphOf t) 0 0) := by
  rw [after0_16]
  refine (out16_apply _ _ _ _ _ _ _ _ _ _ _ _ _ _ _).trans ?_
  rw [weights_eq, rows_eq, bias_eq, flags_eq]
  rfl

/-- The predictions' array after the run. -/
theorem final_pred : (dats m 0 c).arrAt 15 cfg0.N = kPredArr (argsOf m c) := by
  refine (dats m 0 c).arrAt_eq_of_covers 15 _ (by decide +kernel) fun t hf y => ?_
  have he : (win0_15.blk t).view.emb y = ix3 (graphOf t) (y 1) (y 2) := by blk_ext [places t]
  have hy : y = (ix3 0 (y 1) (y 2) : S1x512x128.Idx) := by blk_ext
  have hb := block_pred m c t (y 1) (y 2)
  blk_simp
  rw [he]
  exact (congrArg _ hy).trans hb

/-- The masked losses' array after the run. -/
theorem final_num : (dats m 0 c).arrAt 16 cfg0.N = kNumArr (argsOf m c) := by
  refine (dats m 0 c).arrAt_eq_of_covers 16 _ (by decide +kernel) fun t hf y => ?_
  have he : (win0_16.blk t).view.emb y = ix3 (graphOf t) 0 0 := by blk_ext [places t]
  have hy : y = (ix3 0 0 0 : S1x1x1.Idx) := by blk_ext
  have hb := block_num m c t
  blk_simp
  rw [he]
  exact (congrArg _ hy).trans hb

/-- The loss the lines after the region compute: the masked losses' sum over the number of masked rows. -/
def kLoss (a : Arrays) : Vec Ideal S_ .f32 :=
  Host.divf (F := Ideal) (Host.reduceAdd (kNumArr a) (constant S_ .f32 0x00000000#32) reducesTo_S16x1x1_S_d0_1_2 h_S_)
    (constant S_ .f32 0x449A0000#32)

theorem tail_loss : Pipeline.afterTail₀ cfgs (dats m) 0 (V0 m) [hostOps1] c main_v7 = kLoss (argsOf m c) := by
  have h : Pipeline.withArrays (cfgs 0).spec c (V0 m c) (fun w => (dats m 0 c).arrAt w (cfgs 0).N)
      (Proc.devRef .tc main_v5_1) = kNumArr (argsOf m c) :=
    (Pipeline.withArrays_arr (cfgs 0).spec (by decide) c (V0 m c) (fun w => (dats m 0 c).arrAt w (cfgs 0).N) 16).trans
      (final_num m c)
  unfold Pipeline.afterTail₀
  simp only [hostOps1, List.flatten_cons, List.flatten_nil, List.append_nil]
  after_results
  rw [h]
  rfl

theorem tail_mask : Pipeline.afterTail₀ cfgs (dats m) 0 (V0 m) [hostOps1] c main_cst = maskArr := by
  have h : V m c main_cst = maskArr := by
    entry_read
    rfl
  unfold Pipeline.afterTail₀
  simp only [hostOps1, List.flatten_cons, List.flatten_nil, List.append_nil]
  after_results
  rw [Pipeline.withArrays_of_ne _ c (V0 m c) _ main_cst (by exact (by decide : ∀ w, Pipeline.arrRef spec0 w ≠ main_cst))]
  exact h

open Idealize.SL.Sem in
/-- The run: the three results, and the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v5_0) = kPredArr (argsOf m c)
      ∧ r.2.mem ((c.tc : Thread nD τ).loc main_v7) = kLoss (argsOf m c)
      ∧ r.2.mem ((c.tc : Thread nD τ).loc main_cst) = maskArr) := by
  run_from Cert.KernelIdeal.Gen.run_main m g
  · exact final_pred m c
  · exact tail_loss m c
  · exact tail_mask m c

end Cert.Attn

end
-- ==== Proof.RefLayer.lean ====
/- One layer of the reference, all graphs at once, read graph by graph. -/
module

public import proofs.«01_k».proof.Proof.Gen.ReferenceIdeal
public import proofs.«01_k».proof.Proof.Model
public import Idealize.ShloMosaic.Lib.Pointwise

@[expose] public section

set_option maxRecDepth 16384

noncomputable section

namespace Cert.Attn.Ref

open Idealize.ShloMosaic Cert.ReferenceIdeal Cert.ReferenceIdeal.Gen

/-- A product with a square weight, all graphs. -/
def times (H : Vec Ideal S16x512x128 .f32) (W : Vec Ideal S128x128 .f32) : Vec Ideal S16x512x128 .f32 :=
  Host.dotGeneral (F := Ideal) (φ₁ := .f32) (φ₂ := .f32) dot_S16x512x128_S128x128_S16x512x128_2_0_01_1_n_n none H W

/-- A projection, its columns split into heads. -/
def split (H : Vec Ideal S16x512x128 .f32) (W : Vec Ideal S128x128 .f32) : Vec Ideal S16x4x512x32 .f32 :=
  transpose S16x4x512x32 [0, 2, 1, 3] (shapeCast _ (times H W) shapeCasts_S16x512x128_S16x512x4x32)
    transposes_S16x512x4x32_S16x4x512x32_0_2_1_3

/-- The logits of queries and keys under a bias the heads share. -/
def logits (q k : Vec Ideal S16x4x512x32 .f32) (B : Vec Ideal S16x1x512x512 .f32) : Vec Ideal S16x4x512x512 .f32 :=
  addf (F := Ideal) (Host.divf (F := Ideal)
      (Host.dotGeneral (F := Ideal) (φ₁ := .f32) (φ₂ := .f32) dot_S16x4x512x32_S16x4x512x32_S16x4x512x512_3_3_2_2_01_01 none q k)
      (broadcastInDim S16x4x512x512 ![] bcast_S_S16x4x512x512 (Host.sqrt (constant S_ .f32 0x42000000#32))))
    (broadcastInDim S16x4x512x512 ![0, 1, 2, 3] bcast_S16x1x512x512_S16x4x512x512_0_1_2_3 B)

/-- The largest logit of each row. -/
def peaks (l : FVec Ideal S16x4x512x512 .f32) : FVec Ideal S16x4x512 .f32 :=
  Host.reduce FloatOps.maximumf l (constant S_ .f32 0xFF800000#32) reducesTo_S16x4x512x512_S16x4x512_d3 h_S_

/-- The exponentials of the logits less a number for each row. -/
def expsOf (l : Vec Ideal S16x4x512x512 .f32) (p : Vec Ideal S16x4x512 .f32) : Vec Ideal S16x4x512x512 .f32 :=
  Host.exp (F := Ideal) (subf l (broadcastInDim S16x4x512x512 ![0, 1, 2, 3] bcast_S16x4x512x1_S16x4x512x512_0_1_2_3
    (broadcastInDim S16x4x512x1 ![0, 1, 2] bcast_S16x4x512_S16x4x512x1_0_1_2
      (maximumf (broadcastInDim S16x4x512 ![] bcast_S_S16x4x512 (constant S_ .f32 0xFF800000#32)) p))))

/-- The exponentials of the logits less the largest of their row. -/
def exps (l : Vec Ideal S16x4x512x512 .f32) : Vec Ideal S16x4x512x512 .f32 := expsOf l (peaks l)

/-- The heads: the values under the exponentials divided by their row's sum. -/
def heads (e : Vec Ideal S16x4x512x512 .f32) (v : Vec Ideal S16x4x512x32 .f32) : Vec Ideal S16x4x512x32 .f32 :=
  Host.dotGeneral (F := Ideal) (φ₁ := .f32) (φ₂ := .f32) dot_S16x4x512x512_S16x4x512x32_S16x4x512x32_3_2_2_3_01_01 none
    (Host.divf (F := Ideal) e (broadcastInDim S16x4x512x512 ![0, 1, 2, 3] bcast_S16x4x512x1_S16x4x512x512_0_1_2_3
      (broadcastInDim S16x4x512x1 ![0, 1, 2] bcast_S16x4x512_S16x4x512x1_0_1_2
        (Host.reduceAdd e (constant S_ .f32 0x00000000#32) reducesTo_S16x4x512x512_S16x4x512_d3 h_S_)))) v

/-- A layer's end: the heads side by side, times `Wo`, added to the entry and cut at zero. -/
def finish (H : Vec Ideal S16x512x128 .f32) (o : Vec Ideal S16x4x512x32 .f32) (Wo : Vec Ideal S128x128 .f32) :
    Vec Ideal S16x512x128 .f32 :=
  maximumf (F := Ideal) (addf (F := Ideal) H (times (shapeCast _
      (transpose S16x512x4x32 [0, 2, 1, 3] o transposes_S16x4x512x32_S16x512x4x32_0_2_1_3) shapeCasts_S16x512x4x32_S16x512x128) Wo))
    (broadcastInDim S16x512x128 ![] bcast_S_S16x512x128 (constant S_ .f32 0x00000000#32))

theorem word_bot : Ideal.ofBits .f32 0xFF800000#32 = ⊥ := by simp [Ideal.ofBits, Ideal.ieee]

theorem word_32 : Ideal.ofBits .f32 0x42000000#32 = 32 := by
  show Ideal.ofBits .f32 0x42000000#32 = ((32 : ℝ) : EReal)
  simp [Ideal.ofBits, Ideal.ieee, -EReal.coe_mul,]
  norm_num

theorem split_apply (H : Vec Ideal S16x512x128 .f32) (W : Vec Ideal S128x128 .f32) (b : Fin 16) (h : Fin 4) (n : Fin 512)
    (d : Fin 32) : split H W (ix4 b h n d) = ∑ c, H (ix3 b n c) * W (ix2 c (col h d)) := by
  have hc : col h d = ⟨h * 32 + d, by omega⟩ := Fin.ext (by show 32 * (h : ℕ) + d = h * 32 + d; omega)
  rw [hc]
  pointwise [split, times]

theorem logits_apply (q k : Vec Ideal S16x4x512x32 .f32) (B : Vec Ideal S16x1x512x512 .f32) (b : Fin 16) (h : Fin 4)
    (n m : Fin 512) : logits q k B (ix4 b h n m)
      = Ideal.div (∑ d, q (ix4 b h n d) * k (ix4 b h m d)) (Ideal.sqrt 32) + B (ix4 b 0 n m) := by
  pointwise [logits]
  rw [word_32]

theorem peaks_of (l : FVec Ideal S16x4x512x512 .f32) (z : FVec Ideal S_ .f32) (b : Fin 16) (h : Fin 4) (n : Fin 512) :
    Host.reduce FloatOps.maximumf l z reducesTo_S16x4x512x512_S16x4x512_d3 h_S_ (ix3 b h n)
      = Finset.univ.fold max (z (Shape.Idx.first h_S_)) fun m => l (ix4 b h n m) := by
  simp only [pointwise]

theorem peaks_apply (l : FVec Ideal S16x4x512x512 .f32) (b : Fin 16) (h : Fin 4) (n : Fin 512) :
    peaks l (ix3 b h n) = Finset.univ.fold max ⊥ fun m => l (ix4 b h n m) := by
  unfold peaks
  rw [peaks_of, ← word_bot]
  rfl

theorem expsOf_apply (l : Vec Ideal S16x4x512x512 .f32) (p : Vec Ideal S16x4x512 .f32) (b : Fin 16) (h : Fin 4)
    (n m : Fin 512) : expsOf l p (ix4 b h n m) = Ideal.exp (l (ix4 b h n m) - max ⊥ (p (ix3 b h n))) := by
  rw [← word_bot]
  pointwise [expsOf]

theorem exps_apply (l : Vec Ideal S16x4x512x512 .f32) (b : Fin 16) (h : Fin 4) (n m : Fin 512) :
    exps l (ix4 b h n m) = Ideal.exp (l (ix4 b h n m) - max ⊥ (Finset.univ.fold max ⊥ fun m' => l (ix4 b h n m'))) := by
  rw [← peaks_apply, ← expsOf_apply, exps]

theorem heads_apply (e : Vec Ideal S16x4x512x512 .f32) (v : Vec Ideal S16x4x512x32 .f32) (b : Fin 16) (h : Fin 4)
    (n : Fin 512) (d : Fin 32) :
    heads e v (ix4 b h n d) = ∑ m, Ideal.div (e (ix4 b h n m)) (∑ m', e (ix4 b h n m')) * v (ix4 b h m d) := by
  pointwise [heads]

theorem finish_apply (H : Vec Ideal S16x512x128 .f32) (o : Vec Ideal S16x4x512x32 .f32) (Wo : Vec Ideal S128x128 .f32)
    (b : Fin 16) (n : Fin 512) (j : Fin 128) : finish H o Wo (ix3 b n j)
      = max (H (ix3 b n j) + ∑ c, o (ix4 b (headOf c) n (placeOf c)) * Wo (ix2 c j)) 0 := by
  pointwise [finish, times]
  rfl

/-- One layer of the reference. -/
def layer (B : Vec Ideal S16x1x512x512 .f32) (Wq Wk Wv Wo : Vec Ideal S128x128 .f32) (H : Vec Ideal S16x512x128 .f32) :
    Vec Ideal S16x512x128 .f32 :=
  finish H (heads (exps (logits (split H Wq) (split H Wk) B)) (split H Wv)) Wo

/-- Graph `b` of a batched array, and a weight, as matrices. -/
abbrev at3 (H : Vec Ideal S16x512x128 .f32) (b : Fin 16) : Mat 512 128 := fun n j => H (ix3 b n j)
abbrev at2 (W : Vec Ideal S128x128 .f32) : Mat 128 128 := fun i j => W (ix2 i j)

/-- The batch's layer is each graph's. -/
theorem layer_apply (B : Vec Ideal S16x1x512x512 .f32) (Wq Wk Wv Wo : Vec Ideal S128x128 .f32)
    (H : Vec Ideal S16x512x128 .f32) (b : Fin 16) :
    at3 (layer B Wq Wk Wv Wo H) b
      = rLayer (fun n m => B (ix4 b 0 n m)) (at2 Wq) (at2 Wk) (at2 Wv) (at2 Wo) (at3 H b) := by
  funext n j
  show layer B Wq Wk Wv Wo H (ix3 b n j) = _
  unfold layer
  simp only [finish_apply, heads_apply, exps_apply, logits_apply, split_apply]
  rfl

end Cert.Attn.Ref

end
-- ==== Proof.RefValue.lean ====
/- What the reference's results hold, graph by graph: the masked entry is left as it stands. -/
module

public import proofs.«01_k».proof.Proof.Gen.ReferenceIdeal.Run
public import proofs.«01_k».proof.Proof.Arrays
public import proofs.«01_k».proof.Proof.RefLayer

@[expose] public section

set_option maxRecDepth 16384

noncomputable section

namespace Cert.Attn.Ref

open Idealize.ShloMosaic Idealize.ShloMosaic.StableHlo Cert.ReferenceIdeal Cert.ReferenceIdeal.Gen Cert.ReferenceIdeal.Value

/-- Where the token is put: for each masked place its graph and its row. -/
def places : Vec Ideal S16x77x2 .i32 :=
  concatenate S16x77x2 2 [⟨S16x77x1, (broadcastInDim S16x77x1 ![0, 1] bcast_S16x77_S16x77x1_0_1 (broadcastInDim S16x77 ![0, 1] bcast_S16x1_S16x77_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x77x1, (broadcastInDim S16x77x1 ![0, 1] bcast_S16x77_S16x77x1_0_1 (select (cmpi .slt (fun i => lit0 (S16x77.rowMajor i)) (broadcastInDim S16x77 ![] bcast_S_S16x77 (constantI S_ 32 0#32))) (addi (fun i => lit0 (S16x77.rowMajor i)) (broadcastInDim S16x77 ![] bcast_S_S16x77 (constantI S_ 32 512#32))) (fun i => lit0 (S16x77.rowMajor i))))⟩] concatenates_S16x77x1_S16x77x1_S16x77x2_d2

/-- The features with the token in the masked rows. -/
def masked (x : Vec Ideal S16x512x128 .f32) (t : Vec Ideal S1x1x128 .f32) : Vec Ideal S16x512x128 .f32 :=
  Host.scatter scatter_S16x512x128_S16x77x2_S16x77x128_2_01_01_2 (fun _ b => b) x places
    (broadcastInDim S16x77x128 ![0, 1, 2] bcast_S1x1x128_S16x77x128_0_1_2 t)

/-- A row vector on every row of every graph. -/
def entry (x : Vec Ideal S16x512x128 .f32) (W : Vec Ideal S128x128 .f32) (c : Vec Ideal S128 .f32) : Vec Ideal S16x512x128 .f32 :=
  addf (F := Ideal) (φ := .f32) (times x W) (broadcastInDim S16x512x128 ![0, 1, 2] bcast_S1x1x128_S16x512x128_0_1_2 (broadcastInDim S1x1x128 ![2] bcast_S128_S1x1x128_2 c))

/-- The bias, with an axis for the heads. -/
def bias (A P : Vec Ideal S16x512x512 .f32) : Vec Ideal S16x1x512x512 .f32 :=
  broadcastInDim S16x1x512x512 ![0, 2, 3] bcast_S16x512x512_S16x1x512x512_0_2_3 (addf (F := Ideal) (φ := .f32) A P)

/-- One layer's weight of the three. -/
def pick (l : ℕ) (h : S3x128x128.Slices ![l, 0, 0] S1x128x128) (W : Vec Ideal S3x128x128 .f32) : Vec Ideal S128x128 .f32 :=
  shapeCast _ (extractStridedSlice S1x128x128 ![l, 0, 0] W h) shapeCasts_S1x128x128_S128x128

/-- The decoder. -/
def decoder (H : Vec Ideal S16x512x128 .f32) (W1 : Vec Ideal S128x256 .f32) (b1 : Vec Ideal S256 .f32)
    (W2 : Vec Ideal S256x128 .f32) (b2 : Vec Ideal S128 .f32) : Vec Ideal S16x512x128 .f32 :=
  addf (F := Ideal) (φ := .f32) (Host.dotGeneral (F := Ideal) (φ₁ := .f32) (φ₂ := .f32) dot_S16x512x256_S256x128_S16x512x128_2_0_01_1_n_n none
    (maximumf (F := Ideal) (φ := .f32) (addf (F := Ideal) (φ := .f32) (Host.dotGeneral (F := Ideal) (φ₁ := .f32) (φ₂ := .f32) dot_S16x512x128_S128x256_S16x512x256_2_0_01_1_n_n none H W1)
      (broadcastInDim S16x512x256 ![0, 1, 2] bcast_S1x1x256_S16x512x256_0_1_2 (broadcastInDim S1x1x256 ![2] bcast_S256_S1x1x256_2 b1)))
      (broadcastInDim S16x512x256 ![] bcast_S_S16x512x256 (constant S_ .f32 0x00000000#32))) W2)
    (broadcastInDim S16x512x128 ![0, 1, 2] bcast_S1x1x128_S16x512x128_0_1_2 (broadcastInDim S1x1x128 ![2] bcast_S128_S1x1x128_2 b2))

variable (a : Arrays)

/-- Layer `l` over the arguments' weights. -/
def step (l : ℕ) (h : S3x128x128.Slices ![l, 0, 0] S1x128x128) (H : Vec Ideal S16x512x128 .f32) : Vec Ideal S16x512x128 .f32 :=
  layer (bias a.A a.Aphi) (pick l h a.Wq) (pick l h a.Wk) (pick l h a.Wv) (pick l h a.Wo) H

/-- The reference's prediction. -/
def pred : Vec Ideal S16x512x128 .f32 :=
  decoder (step a 2 slices_S3x128x128_S1x128x128_2_0_0 (step a 1 slices_S3x128x128_S1x128x128_1_0_0
    (step a 0 slices_S3x128x128_S1x128x128_0_0_0 (entry (masked a.x a.token) a.Win a.bin)))) a.W1 a.b1 a.W2 a.b2

/-- The mask the reference draws. -/
def mask : Vec Ideal S16x512 .f32 := fun i => (FloatOps.ofBits .f32 (lit1 (S16x512.rowMajor i)) : Ideal .f32)

/-- The reference's loss, of a prediction, the features and a mask. -/
def loss (p x : Vec Ideal S16x512x128 .f32) (M : Vec Ideal S16x512 .f32) : Vec Ideal S_ .f32 :=
  Host.divf (F := Ideal) (φ := .f32) (Host.reduceAdd (mulf (Host.divf (Host.reduceAdd (mulf (subf p x) (subf p x)) (constant S_ .f32 0x00000000#32) reducesTo_S16x512x128_S16x512_d2 h_S_)
    (broadcastInDim S16x512 ![] bcast_S_S16x512 (constant S_ .f32 0x43000000#32))) M) (constant S_ .f32 0x00000000#32) reducesTo_S16x512_S_d0_1 h_S_)
    (Host.reduceAdd M (constant S_ .f32 0x00000000#32) reducesTo_S16x512_S_d0_1 h_S_)

/-! ## The run's terms are these -/

/-- The arguments a device's buffers hold. -/
def argsOf (V0 : Valuation τ sig (Elt Ideal)) : Arrays where
  x := V0 (Proc.devRef .tc main_arg0)
  A := V0 (Proc.devRef .tc main_arg1)
  Aphi := V0 (Proc.devRef .tc main_arg2)
  token := V0 (Proc.devRef .tc main_arg3)
  Win := V0 (Proc.devRef .tc main_arg4)
  bin := V0 (Proc.devRef .tc main_arg5)
  Wq := V0 (Proc.devRef .tc main_arg6)
  Wk := V0 (Proc.devRef .tc main_arg7)
  Wv := V0 (Proc.devRef .tc main_arg8)
  Wo := V0 (Proc.devRef .tc main_arg9)
  W1 := V0 (Proc.devRef .tc main_arg10)
  b1 := V0 (Proc.devRef .tc main_arg11)
  W2 := V0 (Proc.devRef .tc main_arg12)
  b2 := V0 (Proc.devRef .tc main_arg13)

variable (V0 : Valuation τ sig (Elt Ideal))

theorem term_entry : res_main_v21 V0 = entry (masked (argsOf V0).x (argsOf V0).token) (argsOf V0).Win (argsOf V0).bin := rfl

theorem term_step0 : res_main_v63 V0 = step (argsOf V0) 0 slices_S3x128x128_S1x128x128_0_0_0 (res_main_v21 V0) := rfl

theorem term_step1 : res_main_v103 V0 = step (argsOf V0) 1 slices_S3x128x128_S1x128x128_1_0_0 (res_main_v63 V0) := rfl

theorem term_pred : res_main_v153 V0 = subf (F := Ideal) (φ := .f32) (decoder (step (argsOf V0) 2 slices_S3x128x128_S1x128x128_2_0_0 (res_main_v103 V0))
   (argsOf V0).W1 (argsOf V0).b1 (argsOf V0).W2 (argsOf V0).b2) (argsOf V0).x := rfl

/-- The reference's run leaves these three results. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v152) = pred (argsOf (launchContents m c))
      ∧ r.2.mem ((c.tc : Thread nD τ).loc main_v161)
        = loss (pred (argsOf (launchContents m c))) (argsOf (launchContents m c)).x mask
      ∧ r.2.mem ((c.tc : Thread nD τ).loc main_cst) = mask :=
  (θ_run defs _ _).mono (fun _ h c => ⟨(h c).1, (h c).2.1, (h c).2.2.1⟩) (run m ρ)

/-! ## Read graph by graph -/

theorem pick_apply (l : Fin 3) (h : S3x128x128.Slices ![(l : ℕ), 0, 0] S1x128x128) (W : Vec Ideal S3x128x128 .f32) :
    at2 (pick l h W) = fun i j => W (ix3 l i j) := by
  funext i j
  show pick l h W (ix2 i j) = _
  pointwise [pick]

theorem bias_apply (b : Fin 16) : (fun n m => bias a.A a.Aphi (ix4 b 0 n m)) = a.bias b := by
  funext n m
  show bias a.A a.Aphi (ix4 b 0 n m) = a.A (ix3 b n m) + a.Aphi (ix3 b n m)
  pointwise [bias]

theorem entry_apply (X : Vec Ideal S16x512x128 .f32) (W : Vec Ideal S128x128 .f32) (c : Vec Ideal S128 .f32) (b : Fin 16) :
    at3 (entry X W c) b = affine (at3 X b) (at2 W) fun j => c (ix1 j) := by
  funext n j
  show entry X W c (ix3 b n j) = _
  pointwise [entry, times]
  rfl

theorem decoder_apply (H : Vec Ideal S16x512x128 .f32) (b : Fin 16) :
    at3 (decoder H a.W1 a.b1 a.W2 a.b2) b = decode a.weights (at3 H b) := by
  funext n j
  show decoder H a.W1 a.b1 a.W2 a.b2 (ix3 b n j) = _
  pointwise [decoder]
  rfl

theorem step_apply (l : Fin 3) (h : S3x128x128.Slices ![(l : ℕ), 0, 0] S1x128x128) (H : Vec Ideal S16x512x128 .f32) (b : Fin 16) :
    at3 (step a l h H) b
      = rLayer (a.bias b) (a.weights.Wq l) (a.weights.Wk l) (a.weights.Wv l) (a.weights.Wo l) (at3 H b) := by
  rw [step, layer_apply, bias_apply, pick_apply, pick_apply, pick_apply, pick_apply]
  rfl

/-- The reference's prediction, one graph at a time. -/
theorem pred_apply (b : Fin 16) :
    at3 (pred a) b = decode a.weights (encode (rLayer (a.bias b)) a.weights (at3 (masked a.x a.token) b)) := by
  have e2 := fun H => step_apply a 2 slices_S3x128x128_S1x128x128_2_0_0 H b
  have e1 := fun H => step_apply a 1 slices_S3x128x128_S1x128x128_1_0_0 H b
  have e0 := fun H => step_apply a 0 slices_S3x128x128_S1x128x128_0_0_0 H b
  rw [pred, decoder_apply, encode]
  refine congrArg (decode a.weights) ((e2 _).trans ?_)
  refine congrArg (rLayer _ _ _ _ _) ((e1 _).trans ?_)
  refine congrArg (rLayer _ _ _ _ _) ((e0 _).trans ?_)
  refine congrArg (rLayer _ _ _ _ _) ?_
  rw [entry_apply]
  rfl

/-- A row's part of the reference's loss is the row's loss, where the mask is set. -/
theorem loss_apply (p x : Vec Ideal S16x512x128 .f32) (M : Vec Ideal S16x512 .f32) (i : S_.Idx) :
    loss p x M i = Ideal.div (∑ b, ∑ n, rowLoss (at3 p b) (at3 x b) n * M (ix2 b n)) (∑ b, ∑ n, M (ix2 b n)) := by
  pointwise [loss]
  rfl

end Cert.Attn.Ref

end
-- ==== Proof.Mask.lean ====
/- The mask's literal tables: the kernel's and the reference's are one table of zeros and ones, 77 ones in each graph's
   row, exactly at the places that the reference's table of row numbers lists. -/
module

public import proofs.«01_k».proof.Proof.Gen.KernelIdeal
public import proofs.«01_k».proof.Proof.Gen.ReferenceIdeal

@[expose] public section

set_option maxRecDepth 16384

namespace Cert.Attn.Mask

open Idealize.ShloMosaic

/-- Whether graph `b`'s row `n` is masked. -/
noncomputable def bit (b : Fin 16) (n : Fin 512) : Bool := KernelIdeal.lit0t (b * 512 + n) == 0x3F800000#32

/-- The reference's `u`-th masked row of graph `b`, as the table's word. -/
noncomputable def rowAt (b : Fin 16) (u : Fin 77) : BitVec 32 := ReferenceIdeal.lit0t (b * 77 + u)

theorem word_eq : ∀ (b : Fin 16) (n : Fin 512),
    KernelIdeal.lit0t (b * 512 + n) = if bit b n then 0x3F800000#32 else 0x00000000#32 := by decide +kernel

theorem tables_eq : ∀ (b : Fin 16) (n : Fin 512),
    ReferenceIdeal.lit1t (b * 512 + n) = KernelIdeal.lit0t (b * 512 + n) := by decide +kernel

theorem count : ∀ b : Fin 16, (Finset.univ.filter fun n => bit b n = true).card = 77 := by decide +kernel

theorem rowAt_lt : ∀ (b : Fin 16) (u : Fin 77), (rowAt b u).toNat < 512 := by decide +kernel

theorem rowAt_set : ∀ (b : Fin 16) (u : Fin 77) (h : (rowAt b u).toNat < 512), bit b ⟨(rowAt b u).toNat, h⟩ = true := by
  decide +kernel

theorem rowAt_all : ∀ (b : Fin 16) (n : Fin 512), bit b n = true → ∃ u, (rowAt b u).toNat = n := by decide +kernel

end Cert.Attn.Mask
-- ==== Proof.MaskValue.lean ====
/- The mask as numbers, and the reference's masked entry: the token in the masked rows, the features elsewhere. -/
module

public import proofs.«01_k».proof.Proof.Mask
public import proofs.«01_k».proof.Proof.RefValue
public import Idealize.ShloMosaic.Lib.Routing.OpsSet
public import Idealize.ShloMosaic.Lib.IdealHost

@[expose] public section

set_option maxRecDepth 16384

noncomputable section

namespace Cert.Attn

open Idealize.ShloMosaic Idealize.ShloMosaic.StableHlo Idealize.ShloMosaic.Routing Mask

theorem maskArr_apply (b : Fin 16) (n : Fin 512) : maskArr (ix2 b n) = if bit b n then 1 else 0 := by
  have e : (KernelIdeal.S16x512.rowMajor (ix2 b n) : ℕ) = b * 512 + n := Shape.rowMajor_val_two _
  show Ideal.ofBits .f32 (KernelIdeal.lit0t (KernelIdeal.S16x512.rowMajor (ix2 b n))) = _
  rw [e, word_eq]
  cases bit b n
  · exact Ideal.ofBits_zero_f32
  · exact Ideal.ofBits_one_f32

theorem flag_apply (b : Fin 16) (n : Fin 512) : flag b n = if bit b n then 1 else 0 := maskArr_apply b n

/-- The reference's mask is the kernel's. -/
theorem mask_eq : Ref.mask = maskArr := by
  funext i
  obtain ⟨b, n, rfl⟩ : ∃ (b : Fin 16) (n : Fin 512), i = ix2 b n := ⟨i 0, i 1, (ValueIdx.eq_ix2 i)⟩
  have e : (KernelIdeal.S16x512.rowMajor (ix2 b n) : ℕ) = b * 512 + n := Shape.rowMajor_val_two _
  show Ideal.ofBits .f32 (ReferenceIdeal.lit1t (KernelIdeal.S16x512.rowMajor (ix2 b n)))
    = Ideal.ofBits .f32 (KernelIdeal.lit0t (KernelIdeal.S16x512.rowMajor (ix2 b n)))
  rw [e, tables_eq]

/-- The mask's sum: 77 ones in each of 16 graphs. -/
theorem mask_sum : ∑ b : Fin 16, ∑ n : Fin 512, maskArr (ix2 b n) = ((1232 : ℝ) : EReal) := by
  have e (b : Fin 16) : ∑ n : Fin 512, maskArr (ix2 b n) = ((77 : ℝ) : EReal) := by
    simp only [maskArr_apply]
    rw [Finset.sum_boole, count]
    rfl
  simp only [e]
  rw [Finset.sum_const, ← EReal.coe_nsmul]
  norm_num

/-- The word the kernel divides by is that sum. -/
theorem word_1232 : Ideal.ofBits .f32 0x449A0000#32 = ((1232 : ℝ) : EReal) := by
  simp [Ideal.ofBits, Ideal.ieee, -EReal.coe_mul]
  norm_num

/-! ## The masked entry -/

/-- A row number below 512 is not wrapped, and its sign bit is clear. -/
theorem wrapped (x y : BitVec 32) (n : ℕ) (h : x.toNat = n) (hn : n < 512) :
    (Scalar.select (IntOp.cmpi .slt x 0#32) y x).toInt = (n : ℤ) := by
  rw [wrap_of_lt x y (by omega), BitVec.toInt_eq_toNat_of_lt (by omega), h]

theorem one_sub_one : (1 : EReal) - 1 = 0 := by
  rw [← EReal.coe_one, ← EReal.coe_sub, sub_self, EReal.coe_zero]

/-- The `u`-th place of graph `b`: the graph, -/
theorem places_graph (b : Fin 16) (u : Fin 77) : (Ref.places (ix3 b u 0)).toInt = (b : ℤ) := by
  pointwise [Ref.places]
  exact wrapped _ _ _ (by rw [BitVec.toNat_ofNat]; omega) (by omega)

/-- and the row. -/
theorem places_row (b : Fin 16) (u : Fin 77) : (Ref.places (ix3 b u 1)).toInt = ((rowAt b u).toNat : ℤ) := by
  pointwise [Ref.places]
  have e : (ReferenceIdeal.S16x77.rowMajor (ix2 b u) : ℕ) = b * 77 + u := Shape.rowMajor_val_two _
  have ew : ReferenceIdeal.lit0 (ReferenceIdeal.S16x77.rowMajor (ix2 b u)) = rowAt b u := by
    show ReferenceIdeal.lit0t (ReferenceIdeal.S16x77.rowMajor (ix2 b u)) = _
    rw [e]
    rfl
  rw [ew]
  exact wrapped _ _ _ rfl (rowAt_lt b u)

/-- Update `(b, u, k)` lands at row `rowAt b u` of graph `b`, column `k`. -/
theorem lands (b' : Fin 16) (u : Fin 77) (k' : Fin 128) (b : Fin 16) (n : Fin 512) (k : Fin 128) :
    ReferenceIdeal.scatter_S16x512x128_S16x77x2_S16x77x128_2_01_01_2.resultIdx? (ix3 b' u k') Ref.places = some (ix3 b n k)
      ↔ b' = b ∧ (rowAt b' u).toNat = n ∧ k' = k := by
  have s0 : ReferenceIdeal.scatter_S16x512x128_S16x77x2_S16x77x128_2_01_01_2.start (ix3 b' u k') Ref.places 0 = b' := by
    refine Eq.trans ?_ (places_graph b' u)
    refine congrArg (fun i => (Ref.places i).toInt) (funext fun a => ?_)
    fin_cases a <;> rfl
  have s1 : ReferenceIdeal.scatter_S16x512x128_S16x77x2_S16x77x128_2_01_01_2.start (ix3 b' u k') Ref.places 1
      = ((rowAt b' u).toNat : ℤ) := by
    refine Eq.trans ?_ (places_row b' u)
    refine congrArg (fun i => (Ref.places i).toInt) (funext fun a => ?_)
    fin_cases a <;> rfl
  have s2 : ReferenceIdeal.scatter_S16x512x128_S16x77x2_S16x77x128_2_01_01_2.start (ix3 b' u k') Ref.places 2 = 0 := rfl
  have w0 : ReferenceIdeal.scatter_S16x512x128_S16x77x2_S16x77x128_2_01_01_2.window (ix3 b' u k') 0 = 0 := rfl
  have w1 : ReferenceIdeal.scatter_S16x512x128_S16x77x2_S16x77x128_2_01_01_2.window (ix3 b' u k') 1 = 0 := rfl
  have w2 : ReferenceIdeal.scatter_S16x512x128_S16x77x2_S16x77x128_2_01_01_2.window (ix3 b' u k') 2 = k' := rfl
  rw [resultIdx?_eq_some]
  constructor
  · intro h
    have h0 := h 0
    have h1 := h 1
    have h2 := h 2
    rw [s0, w0] at h0
    rw [s1, w1] at h1
    rw [s2, w2] at h2
    refine ⟨Fin.ext ?_, ?_, Fin.ext ?_⟩
    · simpa using h0
    · simpa using h1
    · simpa using h2
  · rintro ⟨rfl, h, rfl⟩ a
    match a with
    | ⟨0, _⟩ => exact (congrArg₂ (fun x y : ℤ => x + y) s0 (congrArg Nat.cast w0)).trans (by simp)
    | ⟨1, _⟩ => exact (congrArg₂ (fun x y : ℤ => x + y) s1 (congrArg Nat.cast w1)).trans (by rw [h]; simp)
    | ⟨2, _⟩ => exact (congrArg₂ (fun x y : ℤ => x + y) s2 (congrArg Nat.cast w2)).trans (by simp)

/-- The reference's masked entry is the kernel's blend, at the kernel's flags. -/
theorem masked_apply (a : Arrays) (b : Fin 16) :
    Ref.at3 (Ref.masked a.x a.token) b = blend a.weights.token (flag b) (a.graph b) := by
  funext n k
  show Ref.masked a.x a.token (ix3 b n k) = a.x (ix3 b n k) * (1 - flag b n) + flag b n * a.token (ix3 0 0 k)
  rw [flag_apply, Ref.masked]
  cases hb : bit b n
  · rw [scatter_set_miss]
    · simp
    · intro i hi
      obtain ⟨b', u, k', rfl⟩ : ∃ (b' : Fin 16) (u : Fin 77) (k' : Fin 128), i = ix3 b' u k' := ⟨i 0, i 1, i 2, ValueIdx.eq_ix3 i⟩
      obtain ⟨rfl, hn, rfl⟩ := (lands ..).1 hi
      have := rowAt_set b' u (rowAt_lt b' u)
      rw [show (⟨(rowAt b' u).toNat, rowAt_lt b' u⟩ : Fin 512) = n from Fin.ext hn, hb] at this
      exact Bool.noConfusion this
  · obtain ⟨u, hu⟩ := rowAt_all b n hb
    rw [scatter_set_hit (k := ix3 b u k) (hk := (lands ..).2 ⟨rfl, hu, rfl⟩) (v := a.token (ix3 0 0 k))]
    · simp [one_sub_one]
    · intro i hi
      obtain ⟨b', u', k', rfl⟩ : ∃ (b' : Fin 16) (u : Fin 77) (k' : Fin 128), i = ix3 b' u k' := ⟨i 0, i 1, i 2, ValueIdx.eq_ix3 i⟩
      obtain ⟨rfl, hn, rfl⟩ := (lands ..).1 hi
      pointwise []

end Cert.Attn

end
-- ==== Proof.Equation.lean ====
/- The equation: over real numbers the kernel's layer is the reference's. The kernel's weights are the exponentials
   themselves, the reference's are divided by the exponential of the row's largest logit; dividing by the weights' sum
   cancels that factor. -/
module

public import proofs.«01_k».proof.Proof.Model

@[expose] public section

noncomputable section

namespace Cert.Attn

open Idealize.ShloMosaic

/-- A matrix whose entries are real numbers. -/
def IsReal {a b : ℕ} (X : Mat a b) : Prop := ∃ r : Fin a → Fin b → ℝ, X = fun i j => ((r i j : ℝ) : EReal)

theorem coe_sum {ι : Type*} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

theorem div_real (x y : ℝ) (h : y ≠ 0) : Ideal.div (x : EReal) (y : EReal) = ((x / y : ℝ) : EReal) := by
  rw [Ideal.div_coe h, ← EReal.coe_mul]
  congr 1
  ring

theorem coe_max (x y : ℝ) : max (x : EReal) (y : EReal) = ((max x y : ℝ) : EReal) :=
  ((EReal.coe_strictMono.monotone).map_max).symm

/-- The largest of a row of real numbers is a real number. -/
theorem exists_fold_max {n : ℕ} (f : Fin (n + 1) → ℝ) :
    ∃ M : ℝ, Finset.univ.fold max (⊥ : EReal) (fun i => (f i : EReal)) = M := by
  have key : ∀ s : Finset (Fin (n + 1)), s.Nonempty → ∃ M : ℝ, s.fold max (⊥ : EReal) (fun i => (f i : EReal)) = M := by
    intro s hs
    induction hs using Finset.Nonempty.cons_induction with
    | singleton a => exact ⟨f a, by simp⟩
    | cons a s ha hs ih =>
      obtain ⟨M, hM⟩ := ih
      exact ⟨max (f a) M, by rw [Finset.fold_cons, hM, coe_max]⟩
  exact key _ Finset.univ_nonempty

theorem isReal_prod {a b : ℕ} {X : Mat a 128} {W : Mat 128 b} (hX : IsReal X) (hW : IsReal W) : IsReal (prod X W) := by
  obtain ⟨x, rfl⟩ := hX
  obtain ⟨w, rfl⟩ := hW
  refine ⟨fun n j => ∑ k, x n k * w k j, ?_⟩
  funext n j
  simp only [prod, coe_sum, EReal.coe_mul]

/-- The scale may be taken out of the queries' product. -/
theorem prod_scale (x : Fin 512 → Fin 128 → ℝ) (w : Fin 128 → Fin 128 → ℝ) (s : ℝ) :
    prod (fun i j => ((x i j : ℝ) : EReal)) (fun a c => ((w a c : ℝ) : EReal) * ((s : ℝ) : EReal))
      = fun n j => (((∑ k, x n k * w k j) * s : ℝ) : EReal) := by
  funext n j
  simp only [prod, ← EReal.coe_mul, ← coe_sum]
  congr 1
  rw [Finset.sum_mul]
  exact Finset.sum_congr rfl fun k _ => by ring

/-- One head: with the queries scaled and no maximum taken, or with the scores divided and softmax. -/
theorem head_eq (q k v : Fin 512 → Fin 128 → ℝ) (b : Fin 512 → Fin 512 → ℝ) (h : Fin 4) (n : Fin 512) (d : Fin 32) :
    kHead (fun i j => ((q i j * (Real.sqrt 32)⁻¹ : ℝ) : EReal)) (fun i j => ((k i j : ℝ) : EReal))
        (fun i j => ((v i j : ℝ) : EReal)) (fun i j => ((b i j : ℝ) : EReal)) h n d
      = rHead (fun i j => ((q i j : ℝ) : EReal)) (fun i j => ((k i j : ℝ) : EReal))
        (fun i j => ((v i j : ℝ) : EReal)) (fun i j => ((b i j : ℝ) : EReal)) h n d
    ∧ ∃ r : ℝ, kHead (fun i j => ((q i j * (Real.sqrt 32)⁻¹ : ℝ) : EReal)) (fun i j => ((k i j : ℝ) : EReal))
        (fun i j => ((v i j : ℝ) : EReal)) (fun i j => ((b i j : ℝ) : EReal)) h n d = r := by
  -- the logits of the row, as real numbers
  let a : Fin 512 → ℝ := fun m => (∑ d, q n (col h d) * k m (col h d)) / Real.sqrt 32 + b n m
  have h32 : Real.sqrt 32 ≠ 0 := (Real.sqrt_pos.2 (by norm_num)).ne'
  have hroot : Ideal.sqrt 32 = ((Real.sqrt 32 : ℝ) : EReal) := by
    rw [show (32 : EReal) = ((32 : ℝ) : EReal) from rfl, Ideal.sqrt_coe, if_neg (by norm_num)]
  have hk : ∀ m, kWeight (fun i j => ((q i j * (Real.sqrt 32)⁻¹ : ℝ) : EReal)) (fun i j => ((k i j : ℝ) : EReal))
      (fun i j => ((b i j : ℝ) : EReal)) h n m = ((Real.exp (a m) : ℝ) : EReal) := by
    intro m
    simp only [kWeight, score, ← EReal.coe_mul, ← coe_sum, ← EReal.coe_add, Ideal.exp_coe]
    congr 3
    rw [Finset.sum_div]
    exact Finset.sum_congr rfl fun d _ => by rw [div_eq_mul_inv]; ring
  have hl : ∀ m, logit (fun i j => ((q i j : ℝ) : EReal)) (fun i j => ((k i j : ℝ) : EReal))
      (fun i j => ((b i j : ℝ) : EReal)) h n m = ((a m : ℝ) : EReal) := by
    intro m
    simp only [logit, score, hroot, ← EReal.coe_mul, ← coe_sum]
    rw [div_real _ _ h32, ← EReal.coe_add]
  obtain ⟨M, hM⟩ := exists_fold_max a
  have hr : ∀ m, rWeight (fun i j => ((q i j : ℝ) : EReal)) (fun i j => ((k i j : ℝ) : EReal))
      (fun i j => ((b i j : ℝ) : EReal)) h n m = ((Real.exp (a m - M) : ℝ) : EReal) := by
    intro m
    simp only [rWeight, top, hl, hM, max_eq_right bot_le, ← EReal.coe_sub, Ideal.exp_coe]
  have hS : (0 : ℝ) < ∑ m, Real.exp (a m) := Finset.sum_pos (fun m _ => Real.exp_pos _) Finset.univ_nonempty
  have hT : (0 : ℝ) < ∑ m, Real.exp (a m - M) := Finset.sum_pos (fun m _ => Real.exp_pos _) Finset.univ_nonempty
  have e₁ : kHead (fun i j => ((q i j * (Real.sqrt 32)⁻¹ : ℝ) : EReal)) (fun i j => ((k i j : ℝ) : EReal))
        (fun i j => ((v i j : ℝ) : EReal)) (fun i j => ((b i j : ℝ) : EReal)) h n d
      = (((∑ m, Real.exp (a m) * v m (col h d)) * (1 / ∑ m, Real.exp (a m)) : ℝ) : EReal) := by
    simp only [kHead, hk, ← EReal.coe_mul, ← coe_sum]
    rw [← EReal.coe_one, div_real _ _ hS.ne', ← EReal.coe_mul]
  have e₂ : rHead (fun i j => ((q i j : ℝ) : EReal)) (fun i j => ((k i j : ℝ) : EReal))
        (fun i j => ((v i j : ℝ) : EReal)) (fun i j => ((b i j : ℝ) : EReal)) h n d
      = ((∑ m, Real.exp (a m - M) / (∑ m', Real.exp (a m' - M)) * v m (col h d) : ℝ) : EReal) := by
    simp only [rHead, hr, ← coe_sum]
    simp only [div_real _ _ hT.ne', ← EReal.coe_mul, ← coe_sum]
  refine ⟨?_, _, e₁⟩
  rw [e₁, e₂, EReal.coe_eq_coe_iff]
  have hs : ∑ m', Real.exp (a m' - M) = (∑ m, Real.exp (a m)) / Real.exp M := by
    rw [Finset.sum_div]
    exact Finset.sum_congr rfl fun m _ => Real.exp_sub _ _
  rw [Finset.sum_mul]
  refine Finset.sum_congr rfl fun m _ => ?_
  rw [hs, Real.exp_sub]
  have hM' := (Real.exp_pos M).ne'
  field_simp

/-- One layer: the two programs' agree on real entries and weights, and the layer's entries are real again. -/
theorem layer_eq {B : Mat 512 512} {Wq Wk Wv Wo : Mat 128 128} {H : Mat 512 128} (hB : IsReal B) (hq : IsReal Wq)
    (hk : IsReal Wk) (hv : IsReal Wv) (ho : IsReal Wo) (hH : IsReal H) :
    kLayer B Wq Wk Wv Wo H = rLayer B Wq Wk Wv Wo H ∧ IsReal (kLayer B Wq Wk Wv Wo H) := by
  obtain ⟨k, ek⟩ := isReal_prod hH hk
  obtain ⟨v, ev⟩ := isReal_prod hH hv
  obtain ⟨b, rfl⟩ := hB
  obtain ⟨x, rfl⟩ := hH
  obtain ⟨wq, rfl⟩ := hq
  obtain ⟨wo, rfl⟩ := ho
  have eq : prod (fun i j => ((x i j : ℝ) : EReal)) (fun i j => ((wq i j : ℝ) : EReal))
      = fun n j => ((∑ k, x n k * wq k j : ℝ) : EReal) := by
    funext n j
    simp only [prod, coe_sum, EReal.coe_mul]
  have hd := head_eq (fun n j => ∑ k, x n k * wq k j) k v b
  constructor
  · unfold kLayer rLayer
    rw [ek, ev, prod_scale, eq]
    refine congrArg (fun O => close _ O _) ?_
    funext h n d
    exact (hd h n d).1
  · choose o ho using fun h n d => (hd h n d).2
    refine ⟨fun n j => max (x n j + ∑ c, o (headOf c) n (placeOf c) * wo c j) 0, ?_⟩
    unfold kLayer
    rw [ek, ev, prod_scale]
    funext n j
    simp only [close, ho, ← EReal.coe_mul, ← coe_sum, ← EReal.coe_add, ← EReal.coe_zero, coe_max]

end Cert.Attn

end
-- ==== Proof.Finite.lean ====
/- What the precondition says: every entry of the features, the two biases, the token and the weights up to the decoder
   is a real number; and so the three layers agree. -/
module

public import proofs.«01_k».proof.Pre_finite
public import proofs.«01_k».proof.Proof.Arrays
public import proofs.«01_k».proof.Proof.Equation
public import proofs.«01_k».proof.Proof.MaskValue
public import Idealize.ShloMosaic.Lib.ReduceAll

@[expose] public section

set_option maxRecDepth 16384

noncomputable section

namespace Cert.Attn

open Idealize.ShloMosaic Idealize.ShloMosaic.StableHlo Cert.Pre_finite

/-- The shape facts the precondition states. -/
instance preFacts : Cert.Pre_finite.Facts where
  bcast_S_S16x512x128 := by decide
  reducesTo_S16x512x128_S_d0_1_2 := by decide
  h_S_ := by decide
  bcast_S_S16x512x512 := by decide
  reducesTo_S16x512x512_S_d0_1_2 := by decide
  bcast_S_S1x1x128 := by decide
  reducesTo_S1x1x128_S_d0_1_2 := by decide
  bcast_S_S128x128 := by decide
  reducesTo_S128x128_S_d0_1 := by decide
  bcast_S_S128 := by decide
  reducesTo_S128_S_d0 := by decide
  bcast_S_S3x128x128 := by decide
  reducesTo_S3x128x128_S_d0_1_2 := by decide

theorem word_top : Ideal.ofBits .f32 0x7F800000#32 = ⊤ := by
  simp [Ideal.ofBits, Ideal.ieee]

/-- An extended real whose absolute value is below infinity is a real number. -/
theorem real_of_abs_lt {x : EReal} (h : max x (-x) < ⊤) : ∃ r : ℝ, x = r := by
  induction x using EReal.rec with
  | bot => simp at h
  | coe r => exact ⟨r, rfl⟩
  | top => simp at h

/-- One array's check: if all its absolute values compare below infinity, its entries are real numbers. -/
theorem real_of_check {s : Shape} {axes : List (Fin s.rank)} (x : FVec Ideal s .f32) (hb : S_.BroadcastsInDim s (![] : Fin 0 → Fin s.rank))
    (h : s.ReducesTo axes S_) (hu : 0 < S_.numel) (c : IVec S_ 1) (j : S_.Idx)
    (e : Host.reduce IntOp.andi (cmpf .olt (Host.absf x) (broadcastInDim s ![] hb (constant S_ .f32 0x7F800000#32))) c h hu j = 1#1)
    (i : s.Idx) : ∃ r : ℝ, (x i : EReal) = r := by
  haveI : Subsingleton S_.Idx := ⟨fun a b => funext fun k => k.elim0⟩
  have h1 := Host.reduce_andi_all _ c h hu j e i
  have h2 : Ideal.cmp .olt (max (x i : EReal) (-(x i : EReal))) (Ideal.ofBits .f32 0x7F800000#32) = 1#1 := h1
  rw [word_top] at h2
  refine real_of_abs_lt ?_
  by_contra hn
  simp [Ideal.cmp, hn] at h2

/-- Every entry an encoder reads is a real number. -/
structure Arrays.Real (a : Arrays) : Prop where
  x : ∀ i, ∃ r : ℝ, (a.x i : EReal) = r
  A : ∀ i, ∃ r : ℝ, (a.A i : EReal) = r
  Aphi : ∀ i, ∃ r : ℝ, (a.Aphi i : EReal) = r
  token : ∀ i, ∃ r : ℝ, (a.token i : EReal) = r
  Win : ∀ i, ∃ r : ℝ, (a.Win i : EReal) = r
  bin : ∀ i, ∃ r : ℝ, (a.bin i : EReal) = r
  Wq : ∀ i, ∃ r : ℝ, (a.Wq i : EReal) = r
  Wk : ∀ i, ∃ r : ℝ, (a.Wk i : EReal) = r
  Wv : ∀ i, ∃ r : ℝ, (a.Wv i : EReal) = r
  Wo : ∀ i, ∃ r : ℝ, (a.Wo i : EReal) = r

/-- The precondition gives it. -/
theorem real_of_pre (a : Arrays)
    (h : fn (F := Ideal) a.x a.A a.Aphi a.token a.Win a.bin a.Wq a.Wk a.Wv a.Wo a.W1 a.b1 a.W2 a.b2 = fun _ => 1#1) : a.Real := by
  have e := congrFun h (Shape.Idx.first Facts.h_S_)
  unfold fn fn_part1 fn_part2 at e
  dsimp only at e
  obtain ⟨e, hWo⟩ := IntOp.andi_eq_one.1 e
  obtain ⟨e, hWv⟩ := IntOp.andi_eq_one.1 e
  obtain ⟨e, hWk⟩ := IntOp.andi_eq_one.1 e
  obtain ⟨e, hWq⟩ := IntOp.andi_eq_one.1 e
  obtain ⟨e, hbin⟩ := IntOp.andi_eq_one.1 e
  obtain ⟨e, hWin⟩ := IntOp.andi_eq_one.1 e
  obtain ⟨e, htoken⟩ := IntOp.andi_eq_one.1 e
  obtain ⟨e, hAphi⟩ := IntOp.andi_eq_one.1 e
  obtain ⟨hx, hA⟩ := IntOp.andi_eq_one.1 e
  exact ⟨real_of_check _ _ _ _ _ _ hx, real_of_check _ _ _ _ _ _ hA, real_of_check _ _ _ _ _ _ hAphi,
    real_of_check _ _ _ _ _ _ htoken, real_of_check _ _ _ _ _ _ hWin, real_of_check _ _ _ _ _ _ hbin,
    real_of_check _ _ _ _ _ _ hWq, real_of_check _ _ _ _ _ _ hWk, real_of_check _ _ _ _ _ _ hWv, real_of_check _ _ _ _ _ _ hWo⟩

theorem isReal_of {p q : ℕ} {X : Mat p q} (h : ∀ i j, ∃ r : ℝ, X i j = r) : IsReal X := by
  choose r hr using h
  exact ⟨r, funext fun i => funext fun j => hr i j⟩

variable {a : Arrays}

theorem Arrays.Real.bias (h : a.Real) (b : Fin 16) : IsReal (a.bias b) := isReal_of fun i j => by
  obtain ⟨r, hr⟩ := h.A (ix3 b i j)
  obtain ⟨s, hs⟩ := h.Aphi (ix3 b i j)
  refine ⟨r + s, ?_⟩
  show a.A (ix3 b i j) + a.Aphi (ix3 b i j) = _
  rw [hr, hs, EReal.coe_add]

/-- The entry of the first layer. -/
theorem Arrays.Real.entry (h : a.Real) (b : Fin 16) :
    IsReal (affine (blend a.weights.token (flag b) (a.graph b)) a.weights.Win a.weights.bin) := by
  have hX : IsReal (blend a.weights.token (flag b) (a.graph b)) := isReal_of fun n k => by
    obtain ⟨r, hr⟩ := h.x (ix3 b n k)
    obtain ⟨s, hs⟩ := h.token (ix3 0 0 k)
    show ∃ q : ℝ, a.x (ix3 b n k) * (1 - flag b n) + flag b n * a.token (ix3 0 0 k) = q
    rw [flag_apply, hr, hs]
    cases Mask.bit b n
    · exact ⟨r, by simp⟩
    · exact ⟨s, by simp [one_sub_one]⟩
  have hW : IsReal a.weights.Win := isReal_of fun i j => h.Win (ix2 i j)
  obtain ⟨p, hp⟩ := isReal_prod hX hW
  refine isReal_of fun n j => ?_
  obtain ⟨s, hs⟩ := h.bin (ix1 j)
  refine ⟨p n j + s, ?_⟩
  show prod (blend a.weights.token (flag b) (a.graph b)) a.weights.Win n j + a.bin (ix1 j) = _
  rw [hp, hs, EReal.coe_add]

/-- The three layers agree. -/
theorem Arrays.Real.encode_eq (h : a.Real) (b : Fin 16) :
    encode (kLayer (a.bias b)) a.weights (blend a.weights.token (flag b) (a.graph b))
      = encode (rLayer (a.bias b)) a.weights (blend a.weights.token (flag b) (a.graph b)) := by
  have hq (l : Fin 3) : IsReal (a.weights.Wq l) := isReal_of fun i j => h.Wq (ix3 l i j)
  have hk (l : Fin 3) : IsReal (a.weights.Wk l) := isReal_of fun i j => h.Wk (ix3 l i j)
  have hv (l : Fin 3) : IsReal (a.weights.Wv l) := isReal_of fun i j => h.Wv (ix3 l i j)
  have ho (l : Fin 3) : IsReal (a.weights.Wo l) := isReal_of fun i j => h.Wo (ix3 l i j)
  have step (l : Fin 3) {H : Mat 512 128} (hH : IsReal H) :=
    layer_eq (h.bias b) (hq l) (hk l) (hv l) (ho l) hH
  have h0 := step 0 (h.entry b)
  have h1 := step 1 h0.2
  have h2 := step 2 h1.2
  unfold encode
  rw [← h0.1, ← h1.1, h2.1]

end Cert.Attn

end
-- ==== Proof.Results.lean ====
/- The kernel's three results are the reference's, over the same arguments. -/
module

public import proofs.«01_k».proof.Proof.KernelRun
public import proofs.«01_k».proof.Proof.RefValue
public import proofs.«01_k».proof.Proof.MaskValue
public import proofs.«01_k».proof.Proof.Finite

@[expose] public section

set_option maxRecDepth 16384

noncomputable section

namespace Cert.Attn

open Idealize.ShloMosaic Idealize.ShloMosaic.StableHlo

variable {a : Arrays}

/-- One graph's prediction. -/
theorem pred_graph (h : a.Real) (b : Fin 16) :
    kPred a.weights (a.graph b) (a.bias b) (flag b) = Ref.at3 (Ref.pred a) b := by
  rw [Ref.pred_apply, masked_apply, kPred, h.encode_eq]

theorem pred_eq (h : a.Real) : kPredArr a = Ref.pred a := by
  funext i
  obtain ⟨b, n, j, rfl⟩ : ∃ (b : Fin 16) (n : Fin 512) (j : Fin 128), i = ix3 b n j := ⟨i 0, i 1, i 2, ValueIdx.eq_ix3 i⟩
  exact congrFun (congrFun (pred_graph h b) n) j

/-- The kernel's loss: the graphs' masked losses, over the mask's sum as a literal. -/
theorem kLoss_apply (i : KernelIdeal.S_.Idx) :
    kLoss a i = Ideal.div (∑ b, kNum a.weights (a.graph b) (a.bias b) (flag b)) (Ideal.ofBits .f32 0x449A0000#32) := by
  pointwise [kLoss]
  simp only [Fin.sum_univ_one]
  rfl

theorem loss_eq (h : a.Real) : kLoss a = Ref.loss (Ref.pred a) a.x Ref.mask := by
  funext i
  rw [kLoss_apply, Ref.loss_apply, mask_eq, mask_sum, word_1232]
  refine congrArg (fun s => Ideal.div s _) (Finset.sum_congr rfl fun b _ => ?_)
  rw [kNum, pred_graph h b]
  rfl

end Cert.Attn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefValue
public import proofs.«01_k».proof.Proof.Results
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Attn

/-- The reference leaves its arguments as they were, and every semaphore at zero. -/
theorem frame_reference : Cert.quiescent_ReferenceIdeal (hReferenceIdeal := Cert.ReferenceIdeal.Gen.facts) := by
  intro m g _
  refine (θ_run Cert.ReferenceIdeal.defs _ _).mono (fun r h => ⟨fun c => (h c).2.2.2, ?_⟩) (Cert.ReferenceIdeal.Value.run (F := Ideal) m g)
  exact sem_eq_zero_of_no_sems (by decide) r.2

/-- The constant `1/√32` is named for the number it stands for. -/
theorem named : Cert.preserves_Kernel_KernelIdeal :=
  IdealRules.named_const.statement _ "inv_sqrt_dh" .f32 0x3E3504F3#32 (((Real.sqrt 32)⁻¹ : ℝ) : EReal) rfl

/-- The two programs end with equal results: the predictions, the loss and the mask. -/
theorem equal : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hagree
  have ha (c : Dev Cert.KernelIdeal.nD) : Ref.argsOf (StableHlo.launchContents m' c) = argsOf m c := by
    unfold Ref.argsOf argsOf
    rw [Arrays.mk.injEq]
    exact hagree c
  have hr (c : Dev Cert.KernelIdeal.nD) : (argsOf m c).Real := real_of_pre _ (hpre c)
  refine ⟨fun c => kPredArr (argsOf m c), fun c => kLoss (argsOf m c), fun _ => maskArr, ?_, ?_⟩
  · run_from kernel_run m g & Cert.KernelIdeal.Gen.unchanged m g
  · have hres (c : Dev Cert.ReferenceIdeal.nD) : Ref.pred (Ref.argsOf (StableHlo.launchContents m' c)) = kPredArr (argsOf m c)
        ∧ Ref.loss (Ref.pred (Ref.argsOf (StableHlo.launchContents m' c))) (Ref.argsOf (StableHlo.launchContents m' c)).x Ref.mask
          = kLoss (argsOf m c) := by
      rw [ha c, pred_eq (hr c), loss_eq (hr c)]
      exact ⟨rfl, rfl⟩
    refine (θ_run Cert.ReferenceIdeal.defs _ _).mono (fun _ h c => ?_)
      (θ_run_and (Ref.ref_run m' g') (Cert.ReferenceIdeal.Value.run (F := Ideal) m' g'))
    obtain ⟨h1, h2⟩ := h
    obtain ⟨e0, e1, e2⟩ := h1 c
    exact ⟨e0.trans (hres c).1, e1.trans (hres c).2, e2.trans mask_eq, (h2 c).2.2.2⟩

/-- Everything the certificate claims. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, named, equal⟩

end Cert.Proof

end
